-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v11) = v0 c
          ∧ r.2.mem ((c.tc : Thread Cert.MergeReferenceIdeal.nD Cert.MergeReferenceIdeal.τ).loc Cert.MergeReferenceIdeal.main_v25) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)
      ∧ m' ((c.tc : Thread Cert.InReferenceIdeal.nD Cert.InReferenceIdeal.τ).loc Cert.InReferenceIdeal.main_arg5) = m ((c.tc : Thread Cert.InIdeal.nD Cert.InIdeal.τ).loc Cert.InIdeal.main_arg5)
      ∧ m' ((c.tc : Thread Cert.InReferenceIdeal.nD Cert.InReferenceIdeal.τ).loc Cert.InReferenceIdeal.main_arg6) = m ((c.tc : Thread Cert.InIdeal.nD Cert.InIdeal.τ).loc Cert.InIdeal.main_arg6)
      ∧ m' ((c.tc : Thread Cert.InReferenceIdeal.nD Cert.InReferenceIdeal.τ).loc Cert.InReferenceIdeal.main_arg7) = m ((c.tc : Thread Cert.InIdeal.nD Cert.InIdeal.τ).loc Cert.InIdeal.main_arg7)
      ∧ m' ((c.tc : Thread Cert.InReferenceIdeal.nD Cert.InReferenceIdeal.τ).loc Cert.InReferenceIdeal.main_arg8) = m ((c.tc : Thread Cert.InIdeal.nD Cert.InIdeal.τ).loc Cert.InIdeal.main_arg8)
      ∧ m' ((c.tc : Thread Cert.InReferenceIdeal.nD Cert.InReferenceIdeal.τ).loc Cert.InReferenceIdeal.main_arg9) = m ((c.tc : Thread Cert.InIdeal.nD Cert.InIdeal.τ).loc Cert.InIdeal.main_arg9)) →
    ∃ (v0 : (c : Dev Cert.InIdeal.nD) → Buf (Elt Ideal) ((c.tc : Thread Cert.InIdeal.nD Cert.InIdeal.τ).loc Cert.InIdeal.main_v63_1)) (v1 : (c : Dev Cert.InIdeal.nD) → Buf (Elt Ideal) ((c.tc : Thread Cert.InIdeal.nD Cert.InIdeal.τ).loc Cert.InIdeal.main_v63_2)) (v2 : (c : Dev Cert.InIdeal.nD) → Buf (Elt Ideal) ((c.tc : Thread Cert.InIdeal.nD Cert.InIdeal.τ).loc Cert.InIdeal.main_v63_11)) (v3 : (c : Dev Cert.InIdeal.nD) → Buf (Elt Ideal) ((c.tc : Thread Cert.InIdeal.nD Cert.InIdeal.τ).loc Cert.InIdeal.main_v63_12)) (v4 : (c : Dev Cert.InIdeal.nD) → Buf (Elt Ideal) ((c.tc : Thread Cert.InIdeal.nD Cert.InIdeal.τ).loc Cert.InIdeal.main_v63_13)) (v5 : (c : Dev Cert.InIdeal.nD) → Buf (Elt Ideal) ((c.tc : Thread Cert.InIdeal.nD Cert.InIdeal.τ).loc Cert.InIdeal.main_v63_14)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v63_1) = v0 c
          ∧ r.2.mem ((c.tc : Thread Cert.InIdeal.nD Cert.InIdeal.τ).loc Cert.InIdeal.main_v63_2) = v1 c
          ∧ r.2.mem ((c.tc : Thread Cert.InIdeal.nD Cert.InIdeal.τ).loc Cert.InIdeal.main_v63_11) = v2 c
          ∧ r.2.mem ((c.tc : Thread Cert.InIdeal.nD Cert.InIdeal.τ).loc Cert.InIdeal.main_v63_12) = v3 c
          ∧ r.2.mem ((c.tc : Thread Cert.InIdeal.nD Cert.InIdeal.τ).loc Cert.InIdeal.main_v63_13) = v4 c
          ∧ r.2.mem ((c.tc : Thread Cert.InIdeal.nD Cert.InIdeal.τ).loc Cert.InIdeal.main_v63_14) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v31) = v0 c
          ∧ r.2.mem ((c.tc : Thread Cert.InReferenceIdeal.nD Cert.InReferenceIdeal.τ).loc Cert.InReferenceIdeal.main_v33) = v1 c
          ∧ r.2.mem ((c.tc : Thread Cert.InReferenceIdeal.nD Cert.InReferenceIdeal.τ).loc Cert.InReferenceIdeal.main_v36) = v2 c
          ∧ r.2.mem ((c.tc : Thread Cert.InReferenceIdeal.nD Cert.InReferenceIdeal.τ).loc Cert.InReferenceIdeal.main_v37) = v3 c
          ∧ r.2.mem ((c.tc : Thread Cert.InReferenceIdeal.nD Cert.InReferenceIdeal.τ).loc Cert.InReferenceIdeal.main_v43) = v4 c
          ∧ r.2.mem ((c.tc : Thread Cert.InReferenceIdeal.nD Cert.InReferenceIdeal.τ).loc Cert.InReferenceIdeal.main_v49) = v5 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hIn : Cert.In.Facts) (hInIdeal : Cert.InIdeal.Facts) (hInReferenceIdeal : Cert.InReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_In (hIn := hIn)
    ∧ quiescent_InIdeal (hInIdeal := hInIdeal)
    ∧ quiescent_InReferenceIdeal (hInReferenceIdeal := hInReferenceIdeal)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeReferenceIdeal (hMergeIdeal := hMergeIdeal) (hMergeReferenceIdeal := hMergeReferenceIdeal)
    ∧ preserves_In_InIdeal
    ∧ algebraic_InIdeal_InReferenceIdeal (hInIdeal := hInIdeal) (hInReferenceIdeal := hInReferenceIdeal)
-- ==== Kernel.lean ====
abbrev S65536x1024 : Shape := ⟨2, ![65536, 1024]⟩
abbrev S65536x128 : Shape := ⟨2, ![65536, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S2048 : Shape := ⟨1, ![2048]⟩
abbrev S128x65536 : Shape := ⟨2, ![128, 65536]⟩
abbrev S32x1024x8x128x2 : Shape := ⟨5, ![32, 1024, 8, 128, 2]⟩
abbrev S32x1024x8x2x128 : Shape := ⟨5, ![32, 1024, 8, 2, 128]⟩
abbrev S_ : Shape := ⟨0, ![]⟩
abbrev S2048x1 : Shape := ⟨2, ![2048, 1]⟩
abbrev S32x1x2048 : Shape := ⟨3, ![32, 1, 2048]⟩
abbrev S32x1x1024 : Shape := ⟨3, ![32, 1, 1024]⟩
abbrev S1024x1024 : Shape := ⟨2, ![1024, 1024]⟩
abbrev S1024x128 : Shape := ⟨2, ![1024, 128]⟩
abbrev S128x1024 : Shape := ⟨2, ![128, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1x1024 : Shape := ⟨2, ![1, 1024]⟩
abbrev S128x128 : Shape := ⟨2, ![128, 128]⟩
abbrev S1024x32 : Shape := ⟨2, ![1024, 32]⟩
abbrev S1024x160 : Shape := ⟨2, ![1024, 160]⟩
abbrev S1 : Shape := ⟨1, ![1]⟩
abbrev S1x1x1 : Shape := ⟨3, ![1, 1, 1]⟩
abbrev S160x1024 : Shape := ⟨2, ![160, 1024]⟩
abbrev S1024x2048 : Shape := ⟨2, ![1024, 2048]⟩
abbrev S160x2048 : Shape := ⟨2, ![160, 2048]⟩
abbrev S1x2048 : Shape := ⟨2, ![1, 2048]⟩
abbrev S160x128 : Shape := ⟨2, ![160, 128]⟩
abbrev S160 : Shape := ⟨1, ![160]⟩
abbrev S160x1 : Shape := ⟨2, ![160, 1]⟩

abbrev nBuf : Space → Nat
  | .hbm => 42
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S2048, .i32⟩
  | .hbm, ⟨8, _⟩ => ⟨S2048, .i1⟩
  | .hbm, ⟨9, _⟩ => ⟨S128x65536, .f32⟩
  | .hbm, ⟨10, _⟩ => ⟨S32x1024x2048, .bf16⟩
  | .hbm, ⟨11, _⟩ => ⟨S32x1024x8x128x2, .bf16⟩
  | .hbm, ⟨12, _⟩ => ⟨S32x1024x8x2x128, .bf16⟩
  | .hbm, ⟨13, _⟩ => ⟨S32x1024x2048, .bf16⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S32x2048, .f32⟩
  | .hbm, ⟨20, _⟩ => ⟨S32x1x2048, .f32⟩
  | .hbm, ⟨21, _⟩ => ⟨S32x1024x1024, .bf16⟩
  | .hbm, ⟨22, _⟩ => ⟨S32x1x1024, .f32⟩
  | .hbm, ⟨23, _⟩ => ⟨S1024x1024, .i32⟩
  | .hbm, ⟨24, _⟩ => ⟨S1024x1024, .i32⟩
  | .hbm, ⟨25, _⟩ => ⟨S1024x1024, .i1⟩
  | .hbm, ⟨26, _⟩ => ⟨S1024x1024, .i32⟩
  | .hbm, ⟨27, _⟩ => ⟨S1024x1024, .i32⟩
  | .hbm, ⟨28, _⟩ => ⟨S1024x1024, .i1⟩
  | .hbm, ⟨29, _⟩ => ⟨S_, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .bf16⟩
  | .hbm, ⟨35, _⟩ => ⟨S_, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S1024x1024, .bf16⟩
  | .hbm, ⟨41, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S128x1024, .f32⟩
  | .local _ .vmem, ⟨7, _⟩ => ⟨S128x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x128, .bf16⟩
  | .local _ .vmem, ⟨21, _⟩ => ⟨S1024x128, .bf16⟩
  | .local _ .vmem, ⟨22, _⟩ => ⟨S128x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![64, 32], ![false, false]⟩

def k0_off1 (i : grid0.Coords) : Fin 2 → Nat :=
  let arg1 : BitVec 32 := BitVec.ofNat 32 (i 1).val
  let v3 : Index := Scalar.indexCast arg1
  let c0 : Index := 0#32
  ![v3.toNat, 0]
@[reducible] def k0_t1_loop (v35 : BitVec 32) : Scf.Loop 32 :=
  let c0_i32_22 : BitVec 32 := 0#32
  let c160_i32 : BitVec 32 := 160#32
  let v40 : BitVec 32 := Scalar.addi v35 c160_i32
  let c1_i32 : BitVec 32 := 1#32
  let v41 : BitVec 32 := Scalar.subi v40 c1_i32
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c160_i32_15 : BitVec 32 := 160#32
  let c0_i32_18 : BitVec 32 := 0#32
  let v48 : BitVec 1 := Scalar.cmpi .sgt c160_i32_15 c0_i32_18
  let v49 : BitVec 32 := Scalar.extui v48
  let c0_i32_19 : BitVec 32 := 0#32
  let v50 : BitVec 1 := Scalar.cmpi .slt c160_i32_15 c0_i32_19
  let v51 : BitVec 32 := Scalar.extui v50
  let v52 : BitVec 32 := Scalar.subi v49 v51
  let v53 : BitVec 1 := Scalar.cmpi .ne v47 v52
  let v54 : BitVec 32 := Scalar.remsi v41 c160_i32_15
  let c0_i32_20 : BitVec 32 := 0#32
  let v55 : BitVec 1 := Scalar.cmpi .ne v54 c0_i32_20
  let v56 : BitVec 1 := Scalar.andi v53 v55
  let v42 : BitVec 32 := Scalar.divsi v41 c160_i32_15
  let c1_i32_21 : BitVec 32 := 1#32
  let v57 : BitVec 32 := Scalar.subi v42 c1_i32_21
  let v58 : BitVec 32 := Scalar.select v56 v57 v42
  let v59 : BitVec 32 := Scalar.subi v58 c0_i32_22
  let c1_i32_24 : BitVec 32 := 1#32
  let v61 : BitVec 32 := Scalar.divsi v59 c1_i32_24
  let v62 : BitVec 32 := Scalar.muli v61 c1_i32_24
  let v63 : BitVec 32 := Scalar.addi c0_i32_22 v62
  let c1_i32_25 : BitVec 32 := 1#32
  ⟨c0_i32_22, v63, c1_i32_25⟩

@[reducible] def k0_t2_loop (v35 : BitVec 32) : Scf.Loop 32 :=
  let c0_i32_22 : BitVec 32 := 0#32
  let c160_i32 : BitVec 32 := 160#32
  let v40 : BitVec 32 := Scalar.addi v35 c160_i32
  let c1_i32 : BitVec 32 := 1#32
  let v41 : BitVec 32 := Scalar.subi v40 c1_i32
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c160_i32_15 : BitVec 32 := 160#32
  let c0_i32_18 : BitVec 32 := 0#32
  let v48 : BitVec 1 := Scalar.cmpi .sgt c160_i32_15 c0_i32_18
  let v49 : BitVec 32 := Scalar.extui v48
  let c0_i32_19 : BitVec 32 := 0#32
  let v50 : BitVec 1 := Scalar.cmpi .slt c160_i32_15 c0_i32_19
  let v51 : BitVec 32 := Scalar.extui v50
  let v52 : BitVec 32 := Scalar.subi v49 v51
  let v53 : BitVec 1 := Scalar.cmpi .ne v47 v52
  let v54 : BitVec 32 := Scalar.remsi v41 c160_i32_15
  let c0_i32_20 : BitVec 32 := 0#32
  let v55 : BitVec 1 := Scalar.cmpi .ne v54 c0_i32_20
  let v56 : BitVec 1 := Scalar.andi v53 v55
  let v42 : BitVec 32 := Scalar.divsi v41 c160_i32_15
  let c1_i32_21 : BitVec 32 := 1#32
  let v57 : BitVec 32 := Scalar.subi v42 c1_i32_21
  let v58 : BitVec 32 := Scalar.select v56 v57 v42
  let v59 : BitVec 32 := Scalar.subi v58 c0_i32_22
  let c1_i32_24 : BitVec 32 := 1#32
  let v61 : BitVec 32 := Scalar.divsi v59 c1_i32_24
  let v62 : BitVec 32 := Scalar.muli v61 c1_i32_24
  let v63 : BitVec 32 := Scalar.addi c0_i32_22 v62
  let v60 : BitVec 32 := Scalar.addi c0_i32_22 v59
  let c1_i32_26 : BitVec 32 := 1#32
  ⟨v63, v60, c1_i32_26⟩

def k0_chk1 (v35 : BitVec 32) : Prop :=
  ((k0_t1_loop v35).OK) ∧
  ((k0_t2_loop v35).OK)
theorem k0_t1_ok : ∀ (v35 : BitVec 32) (k0_hw1 : k0_chk1 v35), (k0_t1_loop v35).OK := fun v35 k0_hw1 => k0_hw1.1
theorem k0_t2_ok : ∀ (v35 : BitVec 32) (k0_hw1 : k0_chk1 v35), (k0_t2_loop v35).OK := fun v35 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S65536x1024 : Shape := ⟨2, ![65536, 1024]⟩
abbrev S65536x128 : Shape := ⟨2, ![65536, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x2048x65536 : Shape := ⟨3, ![32, 2048, 65536]⟩
abbrev S32x65536x2048 : Shape := ⟨3, ![32, 65536, 2048]⟩
abbrev S32x1x2048 : Shape := ⟨3, ![32, 1, 2048]⟩
abbrev S32x65536x1024 : Shape := ⟨3, ![32, 65536, 1024]⟩
abbrev S_ : Shape := ⟨0, ![]⟩
abbrev S32x1x1024 : Shape := ⟨3, ![32, 1, 1024]⟩
abbrev S65536x32 : Shape := ⟨2, ![65536, 32]⟩
abbrev S32x65536 : Shape := ⟨2, ![32, 65536]⟩
abbrev S32x65536x1 : Shape := ⟨3, ![32, 65536, 1]⟩

abbrev nBuf : Space → Nat
  | .hbm => 62
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x128, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S65536x1024, .f32⟩
  | .hbm, ⟨8, _⟩ => ⟨S32x2048x65536, .f32⟩
  | .hbm, ⟨9, _⟩ => ⟨S32x65536x2048, .f32⟩
  | .hbm, ⟨10, _⟩ => ⟨S32x1x2048, .f32⟩
  | .hbm, ⟨11, _⟩ => ⟨S32x65536x2048, .f32⟩
  | .hbm, ⟨12, _⟩ => ⟨S32x65536x2048, .f32⟩
  | .hbm, ⟨13, _⟩ => ⟨S32x65536x1024, .f32⟩
  | .hbm, ⟨14, _⟩ => ⟨S32x65536x1024, .f32⟩
  | .hbm, ⟨15, _⟩ => ⟨S_, .f32⟩
  | .hbm, ⟨16, _⟩ => ⟨S32x65536x1024, .f32⟩
  | .hbm, ⟨17, _⟩ => ⟨S32x65536x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S32x65536x1024, .f32⟩
  | .hbm, ⟨22, _⟩ => ⟨S32x65536x1024, .f32⟩
  | .hbm, ⟨23, _⟩ => ⟨S_, .f32⟩
  | .hbm, ⟨24, _⟩ => ⟨S32x65536x1024, .f32⟩
  | .hbm, ⟨25, _⟩ => ⟨S32x65536x1024, .f32⟩
  | .hbm, ⟨26, _⟩ => ⟨S_, .f32⟩
  | .hbm, ⟨27, _⟩ => ⟨S32x65536x1024, .f32⟩
  | .hbm, ⟨28, _⟩ => ⟨S32x65536x1024, .f32⟩
  | .hbm, ⟨29, _⟩ => ⟨S32x65536x1024, .f32⟩
  | .hbm, ⟨30, _⟩ => ⟨S32x65536x1024, .f32⟩
  | .hbm, ⟨31, _⟩ => ⟨S_, .f32⟩
  | .hbm, ⟨32, _⟩ => ⟨S32x65536x1024, .f32⟩
  | .hbm, ⟨33, _⟩ => ⟨S32x65536x1024, .f32⟩
  | .hbm, ⟨34, _⟩ => ⟨S_, .f32⟩
  | .hbm, ⟨35, _⟩ => ⟨S32x65536x1024, .f32⟩
  | .hbm, ⟨36, _⟩ => ⟨S32x65536x1024, .f32⟩
  | .hbm, ⟨37, _⟩ => ⟨S32x65536x1024, .f32⟩
  | .hbm, ⟨38, _⟩ => ⟨S_, .f32⟩
  | .hbm, ⟨39, _⟩ => ⟨S32x65536x1024, .f32⟩
  | .hbm, ⟨40, _⟩ => ⟨S32x65536x1024, .f32⟩
  | .hbm, ⟨41, _⟩ => ⟨S32x65536x1024, .f32⟩
  | .hbm, ⟨42, _⟩ => ⟨S32x65536x1024, .f32⟩
  | .hbm, ⟨43, _⟩ => ⟨S32x1x1024, .f32⟩
  | .hbm, ⟨44, _⟩ => ⟨S32x65536x1024, .f32⟩
  | .hbm, ⟨45, _⟩ => ⟨S32x65536x1024, .f32⟩
  | .hbm, ⟨46, _⟩ => ⟨S65536x32, .f32⟩
  | .hbm, ⟨47, _⟩ => ⟨S32x65536, .f32⟩
  | .hbm, ⟨48, _⟩ => ⟨S32x65536x1, .f32⟩
  | .hbm, ⟨49, _⟩ => ⟨S_, .f32⟩
  | .hbm, ⟨50, _⟩ => ⟨S32x65536x1, .f32⟩
  | .hbm, ⟨51, _⟩ => ⟨S32x65536x1, .i1⟩
  | .hbm, ⟨52, _⟩ => ⟨S32x65536x1024, .f32⟩
  | .hbm, ⟨53, _⟩ => ⟨S32x65536x1024, .f32⟩
  | .hbm, ⟨54, _⟩ => ⟨S_, .f32⟩
  | .hbm, ⟨55, _⟩ => ⟨S_, .f32⟩
  | .hbm, ⟨56, _⟩ => ⟨S32x65536x1024, .i1⟩
  | .hbm, ⟨57, _⟩ => ⟨S32x65536x1024, .f32⟩
  | .hbm, ⟨58, _⟩ => ⟨S32x65536x1024, .f32⟩
  | .hbm, ⟨59, _⟩ => ⟨S_, .f32⟩
  | .hbm, ⟨60, _⟩ => ⟨S65536x1024, .f32⟩
  | .hbm, ⟨61, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Merge.lean ====
abbrev S8x8192x1024 : Shape := ⟨3, ![8, 8192, 1024]⟩
abbrev S8x8192x512 : Shape := ⟨3, ![8, 8192, 512]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x96 : Shape := ⟨2, ![1024, 96]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S1x1024 : Shape := ⟨2, ![1, 1024]⟩
abbrev S65536x128 : Shape := ⟨2, ![65536, 128]⟩
abbrev S128x65536 : Shape := ⟨2, ![128, 65536]⟩
abbrev S1x512x512 : Shape := ⟨3, ![1, 512, 512]⟩
abbrev S512x128 : Shape := ⟨2, ![512, 128]⟩
abbrev S128x512 : Shape := ⟨2, ![128, 512]⟩
abbrev S512x512 : Shape := ⟨2, ![512, 512]⟩
abbrev S512 : Shape := ⟨1, ![512]⟩
abbrev S512x1 : Shape := ⟨2, ![512, 1]⟩

abbrev nBuf : Space → Nat
  | .hbm => 28
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S65536x1024, .f32⟩
  | .hbm, ⟨4, _⟩ => ⟨S65536x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S65536x1024, .f32⟩
  | .hbm, ⟨12, _⟩ => ⟨S512x1024, .bf16⟩
  | .hbm, ⟨13, _⟩ => ⟨S512x1024, .bf16⟩
  | .hbm, ⟨14, _⟩ => ⟨S_, .f32⟩
  | .hbm, ⟨15, _⟩ => ⟨S1024x96, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S96, .f32⟩
  | .hbm, ⟨20, _⟩ => ⟨S128, .f32⟩
  | .hbm, ⟨21, _⟩ => ⟨S1x128, .f32⟩
  | .hbm, ⟨22, _⟩ => ⟨S1024x1024, .bf16⟩
  | .hbm, ⟨23, _⟩ => ⟨S1x1024, .f32⟩
  | .hbm, ⟨24, _⟩ => ⟨S65536x1024, .f32⟩
  | .hbm, ⟨25, _⟩ => ⟨S65536x1024, .bf16⟩
  | .hbm, ⟨26, _⟩ => ⟨S65536x128, .f32⟩
  | .hbm, ⟨27, _⟩ => ⟨S128x65536, .f32⟩
  | .local _ .vmem, ⟨0, _⟩ => ⟨S512x1024, .f32⟩
  | .local _ .vmem, ⟨1, _⟩ => ⟨S512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S128x512, .f32⟩
  | .local _ .vmem, ⟨23, _⟩ => ⟨S128x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeReferenceIdeal.lean ====
abbrev S8x8192x1024 : Shape := ⟨3, ![8, 8192, 1024]⟩
abbrev S8x8192x512 : Shape := ⟨3, ![8, 8192, 512]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S65536x512 : Shape := ⟨2, ![65536, 512]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .bf16⟩
  | .hbm, ⟨3, _⟩ => ⟨S65536x1024, .f32⟩
  | .hbm, ⟨4, _⟩ => ⟨S65536x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S65536x1024, .f32⟩
  | .hbm, ⟨12, _⟩ => ⟨S8x8192x512, .f32⟩
  | .hbm, ⟨13, _⟩ => ⟨S65536x512, .f32⟩
  | .hbm, ⟨14, _⟩ => ⟨S8x8192x512, .f32⟩
  | .hbm, ⟨15, _⟩ => ⟨S65536x512, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | .hbm, ⟨39, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== In.lean ====
abbrev S8x8192x1024 : Shape := ⟨3, ![8, 8192, 1024]⟩
abbrev S1024 : Shape := ⟨1, ![1024]⟩
abbrev S1024x4576 : Shape := ⟨2, ![1024, 4576]⟩
abbrev S64 : Shape := ⟨1, ![64]⟩
abbrev S128 : Shape := ⟨1, ![128]⟩
abbrev S128x64 : Shape := ⟨2, ![128, 64]⟩
abbrev S65536x1024 : Shape := ⟨2, ![65536, 1024]⟩
abbrev S1024x512 : Shape := ⟨2, ![1024, 512]⟩
abbrev S1024x128 : Shape := ⟨2, ![1024, 128]⟩
abbrev S1024x24 : Shape := ⟨2, ![1024, 24]⟩
abbrev S1024x64 : Shape := ⟨2, ![1024, 64]⟩
abbrev S1024x8 : Shape := ⟨2, ![1024, 8]⟩
abbrev S1024x1024 : Shape := ⟨2, ![1024, 1024]⟩
abbrev S1024x768 : Shape := ⟨2, ![1024, 768]⟩
abbrev S_ : Shape := ⟨0, ![]⟩
abbrev S1024x96 : Shape := ⟨2, ![1024, 96]⟩
abbrev S1x1024 : Shape := ⟨2, ![1, 1024]⟩
abbrev S512x512 : Shape := ⟨2, ![512, 512]⟩
abbrev S128x128 : Shape := ⟨2, ![128, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S1x128 : Shape := ⟨2, ![1, 128]⟩
abbrev S8x8x8192x64 : Shape := ⟨4, ![8, 8, 8192, 64]⟩
abbrev S8x2x8192x64 : Shape := ⟨4, ![8, 2, 8192, 64]⟩
abbrev S8x2x72x8192 : Shape := ⟨4, ![8, 2, 72, 8192]⟩
abbrev S8x32x8192 : Shape := ⟨3, ![8, 32, 8192]⟩
abbrev S65536x64 : Shape := ⟨2, ![65536, 64]⟩
abbrev S8x72x8192 : Shape := ⟨3, ![8, 72, 8192]⟩
abbrev S256x1024 : Shape := ⟨2, ![256, 1024]⟩
abbrev S1x8x256x64 : Shape := ⟨4, ![1, 8, 256, 64]⟩
abbrev S1x2x256x64 : Shape := ⟨4, ![1, 2, 256, 64]⟩
abbrev S1x2x72x256 : Shape := ⟨4, ![1, 2, 72, 256]⟩
abbrev S1x32x256 : Shape := ⟨3, ![1, 32, 256]⟩
abbrev S256x64 : Shape := ⟨2, ![256, 64]⟩
abbrev S1x72x256 : Shape := ⟨3, ![1, 72, 256]⟩
abbrev S256 : Shape := ⟨1, ![256]⟩
abbrev S256x1 : Shape := ⟨2, ![256, 1]⟩
abbrev S256x512 : Shape := ⟨2, ![256, 512]⟩
abbrev S1x1x256x64 : Shape := ⟨4, ![1, 1, 256, 64]⟩
abbrev S256x768 : Shape := ⟨2, ![256, 768]⟩
abbrev S256x128 : Shape := ⟨2, ![256, 128]⟩
abbrev S128x256 : Shape := ⟨2, ![128, 256]⟩
abbrev S8x256 : Shape := ⟨2, ![8, 256]⟩
abbrev S64x256 : Shape := ⟨2, ![64, 256]⟩
abbrev S1x1x64x256 : Shape := ⟨4, ![1, 1, 64, 256]⟩
abbrev S1x1x8x256 : Shape := ⟨4, ![1, 1, 8, 256]⟩
abbrev S32x256 : Shape := ⟨2, ![32, 256]⟩
abbrev S1x64x256 : Shape := ⟨3, ![1, 64, 256]⟩
abbrev S1x8x256 : Shape := ⟨3, ![1, 8, 256]⟩

abbrev nBuf : Space → Nat
  | .hbm => 93
  | .vmem => 51
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4576, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S65536x1024, .f32⟩
  | .hbm, ⟨11, _⟩ => ⟨S1024x512, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x24, .f32⟩
  | .hbm, ⟨19, _⟩ => ⟨S1024x512, .f32⟩
  | .hbm, ⟨20, _⟩ => ⟨S1024x128, .f32⟩
  | .hbm, ⟨21, _⟩ => ⟨S1024x512, .f32⟩
  | .hbm, ⟨22, _⟩ => ⟨S1024x64, .f32⟩
  | .hbm, ⟨23, _⟩ => ⟨S1024x8, .f32⟩
  | .hbm, ⟨24, _⟩ => ⟨S1024x1024, .f32⟩
  | .hbm, ⟨25, _⟩ => ⟨S1024x1024, .f32⟩
  | .hbm, ⟨26, _⟩ => ⟨S1024x512, .bf16⟩
  | .hbm, ⟨27, _⟩ => ⟨S1024x768, .f32⟩
  | .hbm, ⟨28, _⟩ => ⟨S1024x768, .bf16⟩
  | .hbm, ⟨29, _⟩ => ⟨S_, .f32⟩
  | .hbm, ⟨30, _⟩ => ⟨S1024x96, .f32⟩
  | .hbm, ⟨31, _⟩ => ⟨S1024x128, .f32⟩
  | .hbm, ⟨32, _⟩ => ⟨S1024x128, .bf16⟩
  | .hbm, ⟨33, _⟩ => ⟨S1024x512, .bf16⟩
  | .hbm, ⟨34, _⟩ => ⟨S1024x128, .bf16⟩
  | .hbm, ⟨35, _⟩ => ⟨S1024x512, .bf16⟩
  | .hbm, ⟨36, _⟩ => ⟨S1024x64, .bf16⟩
  | .hbm, ⟨37, _⟩ => ⟨S1024x1024, .bf16⟩
  | .hbm, ⟨38, _⟩ => ⟨S1024x1024, .bf16⟩
  | .hbm, ⟨39, _⟩ => ⟨S1x1024, .f32⟩
  | .hbm, ⟨40, _⟩ => ⟨S512x512, .i32⟩
  | .hbm, ⟨41, _⟩ => ⟨S_, .i32⟩
  | .hbm, ⟨42, _⟩ => ⟨S512x512, .i32⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .f32⟩
  | .hbm, ⟨50, _⟩ => ⟨S512x512, .bf16⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S128x128, .f32⟩
  | .hbm, ⟨61, _⟩ => ⟨S128x128, .bf16⟩
  | .hbm, ⟨62, _⟩ => ⟨S1x64, .f32⟩
  | .hbm, ⟨63, _⟩ => ⟨S8x64, .f32⟩
  | .hbm, ⟨64, _⟩ => ⟨S512, .f32⟩
  | .hbm, ⟨65, _⟩ => ⟨S1x512, .f32⟩
  | .hbm, ⟨66, _⟩ => ⟨S1x64, .f32⟩
  | .hbm, ⟨67, _⟩ => ⟨S2x64, .f32⟩
  | .hbm, ⟨68, _⟩ => ⟨S128, .f32⟩
  | .hbm, ⟨69, _⟩ => ⟨S1x128, .f32⟩
  | .hbm, ⟨70, _⟩ => ⟨S1x64, .f32⟩
  | .hbm, ⟨71, _⟩ => ⟨S8x64, .f32⟩
  | .hbm, ⟨72, _⟩ => ⟨S512, .f32⟩
  | .hbm, ⟨73, _⟩ => ⟨S1x512, .f32⟩
  | .hbm, ⟨74, _⟩ => ⟨S1x128, .f32⟩
  | .hbm, ⟨75, _⟩ => ⟨S128x64, .bf16⟩
  | .hbm, ⟨76, _⟩ => ⟨S128x64, .bf16⟩
  | .hbm, ⟨77, _⟩ => ⟨S1x64, .f32⟩
  | .hbm, ⟨78, _⟩ => ⟨S8x8x8192x64, .bf16⟩
  | .hbm, ⟨79, _⟩ => ⟨S8x2x8192x64, .f32⟩
  | .hbm, ⟨80, _⟩ => ⟨S8x2x8192x64, .f32⟩
  | .hbm, ⟨81, _⟩ => ⟨S8x2x8192x64, .bf16⟩
  | .hbm, ⟨82, _⟩ => ⟨S8x2x72x8192, .bf16⟩
  | .hbm, ⟨83, _⟩ => ⟨S8x2x8192x64, .bf16⟩
  | .hbm, ⟨84, _⟩ => ⟨S8x2x72x8192, .bf16⟩
  | .hbm, ⟨85, _⟩ => ⟨S8x32x8192, .f32⟩
  | .hbm, ⟨86, _⟩ => ⟨S8x8x8192x64, .bf16⟩
  | .hbm, ⟨87, _⟩ => ⟨S65536x64, .bf16⟩
  | .hbm, ⟨88, _⟩ => ⟨S8x72x8192, .bf16⟩
  | .hbm, ⟨89, _⟩ => ⟨S8x8x8192x64, .bf16⟩
  | .hbm, ⟨90, _⟩ => ⟨S65536x64, .bf16⟩
  | .hbm, ⟨91, _⟩ => ⟨S65536x1024, .f32⟩
  | .hbm, ⟨92, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x768, .bf16⟩
  | .local _ .vmem, ⟨5, _⟩ => ⟨S1024x128, .bf16⟩
  | .local _ .vmem, ⟨6, _⟩ => ⟨S1024x512, .bf16⟩
  | .local _ .vmem, ⟨7, _⟩ => ⟨S1024x128, .bf16⟩
  | .local _ .vmem, ⟨8, _⟩ => ⟨S1024x512, .bf16⟩
  | .local _ .vmem, ⟨9, _⟩ => ⟨S1024x64, .bf16⟩
  | .local _ .vmem, ⟨10, _⟩ => ⟨S1024x1024, .bf16⟩
  | .local _ .vmem, ⟨11, _⟩ => ⟨S1024x1024, .bf16⟩
  | .local _ .vmem, ⟨12, _⟩ => ⟨S512x512, .bf16⟩
  | .local _ .vmem, ⟨13, _⟩ => ⟨S128x128, .bf16⟩
  | .local _ .vmem, ⟨14, _⟩ => ⟨S1x512, .f32⟩
  | .local _ .vmem, ⟨15, _⟩ => ⟨S1x128, .f32⟩
  | .local _ .vmem, ⟨16, _⟩ => ⟨S1x512, .f32⟩
  | .local _ .vmem, ⟨17, _⟩ => ⟨S1x128, .f32⟩
  | .local _ .vmem, ⟨18, _⟩ => ⟨S128x64, .bf16⟩
  | .local _ .vmem, ⟨19, _⟩ => ⟨S128x64, .bf16⟩
  | .local _ .vmem, ⟨20, _⟩ => ⟨S1x64, .f32⟩
  | .local _ .vmem, ⟨21, _⟩ => ⟨S1x8x256x64, .bf16⟩
  | .local _ .vmem, ⟨22, _⟩ => ⟨S1x8x256x64, .bf16⟩
  | .local _ .vmem, ⟨23, _⟩ => ⟨S1x2x256x64, .f32⟩
  | .local _ .vmem, ⟨24, _⟩ => ⟨S1x2x256x64, .f32⟩
  | .local _ .vmem, ⟨25, _⟩ => ⟨S1x2x256x64, .f32⟩
  | .local _ .vmem, ⟨26, _⟩ => ⟨S1x2x256x64, .f32⟩
  | .local _ .vmem, ⟨27, _⟩ => ⟨S1x2x256x64, .bf16⟩
  | .local _ .vmem, ⟨28, _⟩ => ⟨S1x2x256x64, .bf16⟩
  | .local _ .vmem, ⟨29, _⟩ => ⟨S1x2x72x256, .bf16⟩
  | .local _ .vmem, ⟨30, _⟩ => ⟨S1x2x72x256, .bf16⟩
  | .local _ .vmem, ⟨31, _⟩ => ⟨S1x2x256x64, .bf16⟩
  | .local _ .vmem, ⟨32, _⟩ => ⟨S1x2x256x64, .bf16⟩
  | .local _ .vmem, ⟨33, _⟩ => ⟨S1x2x72x256, .bf16⟩
  | .local _ .vmem, ⟨34, _⟩ => ⟨S1x2x72x256, .bf16⟩
  | .local _ .vmem, ⟨35, _⟩ => ⟨S1x32x256, .f32⟩
  | .local _ .vmem, ⟨36, _⟩ => ⟨S1x32x256, .f32⟩
  | .local _ .vmem, ⟨37, _⟩ => ⟨S1x8x256x64, .bf16⟩
  | .local _ .vmem, ⟨38, _⟩ => ⟨S1x8x256x64, .bf16⟩
  | .local _ .vmem, ⟨39, _⟩ => ⟨S256x64, .bf16⟩
  | .local _ .vmem, ⟨40, _⟩ => ⟨S256x64, .bf16⟩
  | .local _ .vmem, ⟨41, _⟩ => ⟨S1x72x256, .bf16⟩
  | .local _ .vmem, ⟨42, _⟩ => ⟨S1x72x256, .bf16⟩
  | .local _ .vmem, ⟨43, _⟩ => ⟨S1x8x256x64, .bf16⟩
  | .local _ .vmem, ⟨44, _⟩ => ⟨S1x8x256x64, .bf16⟩
  | .local _ .vmem, ⟨45, _⟩ => ⟨S256x64, .bf16⟩
  | .local _ .vmem, ⟨46, _⟩ => ⟨S256x64, .bf16⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_1 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev main_v63_3 : Ref sig .tc := ⟨.hbm, 81, rfl⟩
abbrev main_v63_4 : Ref sig .tc := ⟨.hbm, 82, rfl⟩
abbrev main_v63_5 : Ref sig .tc := ⟨.hbm, 83, rfl⟩
abbrev main_v63_6 : Ref sig .tc := ⟨.hbm, 84, rfl⟩
abbrev main_v63_7 : Ref sig .tc := ⟨.hbm, 85, rfl⟩
abbrev main_v63_8 : Ref sig .tc := ⟨.hbm, 86, rfl⟩
abbrev main_v63_9 : Ref sig .tc := ⟨.hbm, 87, rfl⟩
abbrev main_v63_10 : Ref sig .tc := ⟨.hbm, 88, rfl⟩
abbrev main_v63_11 : Ref sig .tc := ⟨.hbm, 89, rfl⟩
abbrev main_v63_12 : Ref sig .tc := ⟨.hbm, 90, rfl⟩
abbrev main_v63_13 : Ref sig .tc := ⟨.hbm, 91, rfl⟩
abbrev main_v63_14 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_stg28_0 : Ref sig .tc := ⟨.vmem, 37, rfl⟩
abbrev cc0_stg28_1 : Ref sig .tc := ⟨.vmem, 38, rfl⟩
abbrev cc0_stg29_0 : Ref sig .tc := ⟨.vmem, 39, rfl⟩
abbrev cc0_stg29_1 : Ref sig .tc := ⟨.vmem, 40, rfl⟩
abbrev cc0_stg30_0 : Ref sig .tc := ⟨.vmem, 41, rfl⟩
abbrev cc0_stg30_1 : Ref sig .tc := ⟨.vmem, 42, rfl⟩
abbrev cc0_stg31_0 : Ref sig .tc := ⟨.vmem, 43, rfl⟩
abbrev cc0_stg31_1 : Ref sig .tc := ⟨.vmem, 44, rfl⟩
abbrev cc0_stg32_0 : Ref sig .tc := ⟨.vmem, 45, rfl⟩
abbrev cc0_stg32_1 : Ref sig .tc := ⟨.vmem, 46, rfl⟩
abbrev cc0_stg33_0 : Ref sig .tc := ⟨.vmem, 47, rfl⟩
abbrev cc0_stg33_1 : Ref sig .tc := ⟨.vmem, 48, rfl⟩
abbrev cc0_stg34_0 : Ref sig .tc := ⟨.vmem, 49, rfl⟩
abbrev cc0_stg34_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36
abbrev cc0_sem28_0 : DmaSem sig := 37
abbrev cc0_sem28_1 : DmaSem sig := 38
abbrev cc0_sem29_0 : DmaSem sig := 39
abbrev cc0_sem29_1 : DmaSem sig := 40
abbrev cc0_sem30_0 : DmaSem sig := 41
abbrev cc0_sem30_1 : DmaSem sig := 42
abbrev cc0_sem31_0 : DmaSem sig := 43
abbrev cc0_sem31_1 : DmaSem sig := 44
abbrev cc0_sem32_0 : DmaSem sig := 45
abbrev cc0_sem32_1 : DmaSem sig := 46
abbrev cc0_sem33_0 : DmaSem sig := 47
abbrev cc0_sem33_1 : DmaSem sig := 48
abbrev cc0_sem34_0 : DmaSem sig := 49
abbrev cc0_sem34_1 : DmaSem sig := 50

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_29 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_31 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_32 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_33 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_34 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x64 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x8x256x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x2x256x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2x256x64 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x2x72x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x2x256x64 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x2x72x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x32x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x8x256x64 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S256x64 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x72x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x8x256x64 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S256x64 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S256x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S256x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]
-- ==== InReferenceIdeal.lean ====
abbrev S8x8192x1024 : Shape := ⟨3, ![8, 8192, 1024]⟩
abbrev S1024 : Shape := ⟨1, ![1024]⟩
abbrev S1024x4576 : Shape := ⟨2, ![1024, 4576]⟩
abbrev S64 : Shape := ⟨1, ![64]⟩
abbrev S128 : Shape := ⟨1, ![128]⟩
abbrev S128x64 : Shape := ⟨2, ![128, 64]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4576 : Shape := ⟨2, ![65536, 4576]⟩
abbrev S65536x512 : Shape := ⟨2, ![65536, 512]⟩
abbrev S65536x128 : Shape := ⟨2, ![65536, 128]⟩
abbrev S65536x24 : Shape := ⟨2, ![65536, 24]⟩
abbrev S65536x64 : Shape := ⟨2, ![65536, 64]⟩
abbrev S65536x8 : Shape := ⟨2, ![65536, 8]⟩
abbrev S8x8192x2x64 : Shape := ⟨4, ![8, 8192, 2, 64]⟩
abbrev S8x2x8192x64 : Shape := ⟨4, ![8, 2, 8192, 64]⟩
abbrev S8x8192x8x64 : Shape := ⟨4, ![8, 8192, 8, 64]⟩
abbrev S8x8x8192x64 : Shape := ⟨4, ![8, 8, 8192, 64]⟩

abbrev nBuf : Space → Nat
  | .hbm => 67
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4576, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S1x1024, .f32⟩
  | .hbm, ⟨25, _⟩ => ⟨S65536x1024, .f32⟩
  | .hbm, ⟨26, _⟩ => ⟨S65536x1024, .f32⟩
  | .hbm, ⟨27, _⟩ => ⟨S65536x4576, .f32⟩
  | .hbm, ⟨28, _⟩ => ⟨S65536x512, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S65536x128, .f32⟩
  | .hbm, ⟨33, _⟩ => ⟨S65536x128, .f32⟩
  | .hbm, ⟨34, _⟩ => ⟨S65536x128, .f32⟩
  | .hbm, ⟨35, _⟩ => ⟨S65536x24, .f32⟩
  | .hbm, ⟨36, _⟩ => ⟨S65536x512, .f32⟩
  | .hbm, ⟨37, _⟩ => ⟨S65536x128, .f32⟩
  | .hbm, ⟨38, _⟩ => ⟨S65536x512, .f32⟩
  | .hbm, ⟨39, _⟩ => ⟨S65536x64, .f32⟩
  | .hbm, ⟨40, _⟩ => ⟨S65536x8, .f32⟩
  | .hbm, ⟨41, _⟩ => ⟨S65536x1024, .f32⟩
  | .hbm, ⟨42, _⟩ => ⟨S65536x1024, .f32⟩
  | .hbm, ⟨43, _⟩ => ⟨S8x8192x2x64, .f32⟩
  | .hbm, ⟨44, _⟩ => ⟨S8x2x8192x64, .f32⟩
  | .hbm, ⟨45, _⟩ => ⟨S8x8192x2x64, .f32⟩
  | .hbm, ⟨46, _⟩ => ⟨S8x2x8192x64, .f32⟩
  | .hbm, ⟨47, _⟩ => ⟨S8x8192x8x64, .f32⟩
  | .hbm, ⟨48, _⟩ => ⟨S8x8x8192x64, .f32⟩
  | .hbm, ⟨49, _⟩ => ⟨S8x8x8192x64, .bf16⟩
  | .hbm, ⟨50, _⟩ => ⟨S65536x64, .bf16⟩
  | .hbm, ⟨51, _⟩ => ⟨S65536x1024, .f32⟩
  | .hbm, ⟨52, _⟩ => ⟨S65536x1024, .f32⟩
  | .hbm, ⟨53, _⟩ => ⟨S_, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S_, .f32⟩
  | .hbm, ⟨62, _⟩ => ⟨S65536x1024, .f32⟩
  | .hbm, ⟨63, _⟩ => ⟨S65536x1024, .f32⟩
  | .hbm, ⟨64, _⟩ => ⟨S_, .f32⟩
  | .hbm, ⟨65, _⟩ => ⟨S65536x1024, .f32⟩
  | .hbm, ⟨66, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.Words.lean ====
/- The trip counts of the two counted loops of the mixture-of-experts body: the side condition the body assumes holds for
every word, the second (remainder) loop never runs. -/
module

public import proofs.«01_k».proof.Proof.Gen.KernelIdeal.Skeleton
public import Idealize.ShloMosaic.Lib.WordCmp
public import proofs.«01_k».proof.Proof.Gen.KernelIdeal.Frame

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Dividing by one leaves a word as it is. -/
theorem divsi_one (q : BitVec 32) : Scalar.divsi q 1#32 = q := by
  have h : ¬ IntOp.SDivCorner q 1#32 := by rintro (h | ⟨-, h⟩) <;> revert h <;> decide
  show IntOp.divsi _ q 1#32 = q
  unfold IntOp.divsi
  rw [if_neg h]; exact BitVec.sdiv_one

/-- A loop from zero to any word by steps of one has a meaning. -/
theorem ok_from_zero (q : BitVec 32) : Scf.OK 0#32 q 1#32 := by
  have h := BitVec.toInt_lt (x := q)
  have e0 : (0#32 : BitVec 32).toInt = 0 := by decide
  have e1 : (1#32 : BitVec 32).toInt = 1 := by decide
  unfold Scf.OK Scf.trips
  rw [e0, e1]
  omega

/-- A loop from a word to itself by steps of one has a meaning. -/
theorem ok_empty (q : BitVec 32) : Scf.OK q q 1#32 := by
  have h := BitVec.toInt_lt (x := q)
  have e1 : (1#32 : BitVec 32).toInt = 1 := by decide
  unfold Scf.OK Scf.trips
  rw [e1]
  omega

/-- The upper bound of the first loop: the number of groups of 160 rows that hold `v` rows, as a word. -/
def groups (v : BitVec 32) : BitVec 32 :=
  let p : BitVec 32 := Scalar.subi (Scalar.addi v 160#32) 1#32
  Scalar.select
    (Scalar.andi
      (Scalar.cmpi .ne (Scalar.subi (Scalar.extui (Scalar.cmpi .sgt p 0#32)) (Scalar.extui (Scalar.cmpi .slt p 0#32)))
        (Scalar.subi (Scalar.extui (Scalar.cmpi .sgt (160#32 : BitVec 32) 0#32)) (Scalar.extui (Scalar.cmpi .slt (160#32 : BitVec 32) 0#32))))
      (Scalar.cmpi .ne (Scalar.remsi p 160#32) 0#32))
    (Scalar.subi (Scalar.divsi p 160#32) 1#32) (Scalar.divsi p 160#32)

/-- The first loop runs from zero to `groups v`. -/
theorem t1_loop (v : BitVec 32) : k0_t1_loop v = ⟨0#32, groups v, 1#32⟩ := by
  have e : Scalar.addi 0#32 (Scalar.muli (Scalar.divsi (Scalar.subi (groups v) 0#32) 1#32) 1#32) = groups v := by
    rw [divsi_one]; show 0#32 + (groups v - 0#32) * 1#32 = groups v; simp
  exact congrArg (fun u => (⟨0#32, u, 1#32⟩ : Scf.Loop 32)) e

/-- The second loop runs from `groups v` to `groups v`. -/
theorem t2_loop (v : BitVec 32) : k0_t2_loop v = ⟨groups v, groups v, 1#32⟩ := by
  have e : Scalar.addi 0#32 (Scalar.muli (Scalar.divsi (Scalar.subi (groups v) 0#32) 1#32) 1#32) = groups v := by
    rw [divsi_one]; show 0#32 + (groups v - 0#32) * 1#32 = groups v; simp
  have e' : Scalar.addi 0#32 (Scalar.subi (groups v) 0#32) = groups v := by
    show 0#32 + (groups v - 0#32) = groups v; simp
  exact (congrArg (fun u => (⟨u, Scalar.addi 0#32 (Scalar.subi (groups v) 0#32), 1#32⟩ : Scf.Loop 32)) e).trans
    (congrArg (fun u => (⟨groups v, u, 1#32⟩ : Scf.Loop 32)) e')

/-- Both loops have a meaning whatever the word is. -/
theorem chk_all (v : BitVec 32) : k0_chk1 v := by
  unfold k0_chk1
  rw [t1_loop, t2_loop]
  exact ⟨ok_from_zero _, ok_empty _⟩

/-- The second loop has no trip. -/
theorem t2_trips (v : BitVec 32) : (k0_t2_loop v).trips = 0 := by
  rw [t2_loop]
  show Scf.trips (groups v) (groups v) 1#32 = 0
  have e1 : (1#32 : BitVec 32).toInt = 1 := by decide
  unfold Scf.trips
  rw [e1]; omega

/-- For at most 1024 rows the first loop runs once per started group of 160. -/
theorem t1_trips (n : ℕ) (hn : n ≤ 1024) : (k0_t1_loop (BitVec.ofNat 32 n)).trips = (n + 159) / 160 := by
  rw [t1_loop]
  show Scf.trips 0#32 (groups (BitVec.ofNat 32 n)) 1#32 = _
  have e0 : (0#32 : BitVec 32).toInt = 0 := by decide
  have e1 : (1#32 : BitVec 32).toInt = 1 := by decide
  have key : ∀ n : Fin 1025, groups (BitVec.ofNat 32 n.val) = BitVec.ofNat 32 ((n.val + 159) / 160) := by decide +kernel
  rw [key ⟨n, by omega⟩]
  unfold Scf.trips
  rw [e0, e1, WordCmp.toInt_ofNat_of_lt (by omega : (n + 159) / 160 < 2 ^ (32 - 1))]
  omega

end Cert.KernelIdeal.Moe

end
-- ==== Proof.Trip.lean ====
/- One trip of the mixture-of-experts body's counted loop: what it reads, and what it adds to the output tile. -/
module

public import proofs.«01_k».proof.Proof.Gen.KernelIdeal.Frame
public import proofs.«01_k».proof.Proof.Gen.KernelIdeal.Skeleton
public import proofs.«01_k».proof.Proof.Words
public import Idealize.ShloMosaic.Lib.Exec
public import Idealize.ShloMosaic.Lib.VecWindow

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The up-projection of trip `k`: the rows picked by their ranks, times the gate-and-up weights, plus their bias. -/
def up (v11 : Vec F S1x1024 .f32) (v35 : BitVec 32) (v37 : FVec F S160x1024 .f32) (k : Fin (k0_t1_loop v35).trips) (x1 : Vec F S1024x1024 .bf16) (x6 : Vec F S1x1024x2048 .bf16) (x7 : Vec F S1x1x2048 .f32) :
    FVec F S160x2048 .f32 := k0_pay11 v11 v35 v37 0#32 1#32 k x1 x6 x7

/-- What trip `k` adds to the output tile. -/
def addend (v5 : FVec F S1x1024 .f32) (v11 : Vec F S1x1024 .f32) (v25 : FVec F S1024x160 .f32) (v35 : BitVec 32) (v37 : FVec F S160x1024 .f32) (k : Fin (k0_t1_loop v35).trips) (x1 : Vec F S1024x1024 .bf16) (x6 : Vec F S1x1024x2048 .bf16) (x7 : Vec F S1x1x2048 .f32) (x8 : Vec F S1x1024x1024 .bf16) (x9 : Vec F S1x1x1024 .f32) : FVec F S1024x1024 .f32 :=
  k0_pay23 v5 v25 (k0_pay1 (F := F)) (k0_pay9 v35 0#32 1#32 k) (k0_pay10 v11 v35 v37 0#32 1#32 k) (k0_pay11 v11 v35 v37 0#32 1#32 k x1 x6 x7)
    (k0_pay12 v11 v35 v37 0#32 1#32 k x1 x6 x7)
    (k0_pay15 (k0_pay13 v11 v35 v37 0#32 1#32 k x1 x6 x7) (k0_pay14 v11 v35 v37 0#32 1#32 k x1 x6 x7))
    (k0_pay16 (k0_pay11 v11 v35 v37 0#32 1#32 k x1 x6 x7)) (k0_pay17 (k0_pay11 v11 v35 v37 0#32 1#32 k x1 x6 x7))
    (k0_pay19 (k0_pay11 v11 v35 v37 0#32 1#32 k x1 x6 x7) (k0_pay18 (k0_pay11 v11 v35 v37 0#32 1#32 k x1 x6 x7)) (Scalar.ofBits .f32 0x40E00000#32))
    (k0_pay20 (k0_pay11 v11 v35 v37 0#32 1#32 k x1 x6 x7)) (k0_pay21 (k0_pay11 v11 v35 v37 0#32 1#32 k x1 x6 x7)) x8 x9

set_option maxHeartbeats 1000000 in
/-- One trip reads the operands and leaves the output tile with its addend added. -/
theorem trip_run (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S128x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S128x1024 .f32) (harg15 : arg15.IsWhole) (v5 : FVec F S1x1024 .f32) (v11 : Vec F S1x1024 .f32) (v25 : FVec F S1024x160 .f32) (v35 : BitVec 32) (hw : k0_chk1 v35) (v37 : FVec F S160x1024 .f32) (k : Fin (k0_t1_loop v35).trips)
    (x1 : Vec F S1024x1024 .bf16) (x6 : Vec F S1x1024x2048 .bf16) (x7 : Vec F S1x1x2048 .f32) (x8 : Vec F S1x1024x1024 .bf16) (x9 : Vec F S1x1x1024 .f32) (o : Vec F S1024x1024 .f32) (acc : BitVec 32) (E : Set ℕ) :
    (iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (o)) : sProp 𝕄)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v5 v11 v25 v35 hw v37 k acc)
          (fun _ => iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9)
            ∗ owns (c : Thread nD τ) arg12 fullShare (k0_pay2 (k0_pay22 o) (addend v5 v11 v25 v35 v37 k x1 x6 x7 x8 x9)))) := by
  unfold k0_t1_body owns
  iintro ⟨⟨%f3, %h3, H3⟩, ⟨%f8, %h8, H8⟩, ⟨%f9, %h9, H9⟩, ⟨%f10, %h10, H10⟩, ⟨%f11, %h11, H11⟩, ⟨%f12, %h12, H12⟩⟩
  subst h3 h8 h9 h10 h11 h12
  sl_exec
  sl_step
  isplitl [H3]
  · iexists _; isplitr; swap; · iexact H3
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro
  refine (View.read_writes_full _ _ _ _ _).trans ?_
  unfold addend
  rw [← View.readAt_full arg3.view f3 inb_S1024x1024_S1024x1024_0_0, ← View.readAt_full arg8.view f8 inb_S1x1024x2048_S1x1024x2048_0_0_0,
    ← View.readAt_full arg9.view f9 inb_S1x1x2048_S1x1x2048_0_0_0, ← View.readAt_full arg10.view f10 inb_S1x1024x1024_S1x1024x1024_0_0_0,
    ← View.readAt_full arg11.view f11 inb_S1x1x1024_S1x1x1024_0_0_0, ← View.readAt_full arg12.view f12 inb_S1024x1024_S1024x1024_0_0]
  rfl

end Cert.KernelIdeal.Moe

end
-- ==== Proof.Body.lean ====
/- The mixture-of-experts body at one grid point: the ranks of the routed tokens written at a tile's first expert, and the
output tile each expert's loop leaves. -/
module

public import proofs.«01_k».proof.Proof.Trip

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row of a 128-row table that grid point `i` reads: its expert's. -/
def rowAt (i : grid0.Coords) (X : Vec F S128x1024 .f32) : Vec F S1x1024 .f32 :=
  View.ld X (Rect.unit (s := S128x1024) (k0_off1 i) S1x1024.size (k0_off1_inb i))

/-- How many tokens of the tile the expert of point `i` takes, as the word the body computes. -/
def countAt (i : grid0.Coords) (x3 : Vec F S128x1024 .f32) : BitVec 32 := Scalar.fptosi 32 (k0_pay44 (rowAt i x3))

/-- The output tile before trip `k`, from `o` at the loop's entry. -/
def accAt (v5 : FVec F S1x1024 .f32) (v11 : Vec F S1x1024 .f32) (v25 : FVec F S1024x160 .f32) (v35 : BitVec 32) (v37 : FVec F S160x1024 .f32) (x1 : Vec F S1024x1024 .bf16) (x6 : Vec F S1x1024x2048 .bf16) (x7 : Vec F S1x1x2048 .f32) (x8 : Vec F S1x1024x1024 .bf16) (x9 : Vec F S1x1x1024 .f32) (o : Vec F S1024x1024 .f32) : ℕ → Vec F S1024x1024 .f32
  | 0 => o
  | k + 1 => if h : k < (k0_t1_loop v35).trips then
      k0_pay2 (k0_pay22 (accAt v5 v11 v25 v35 v37 x1 x6 x7 x8 x9 o k)) (addend v5 v11 v25 v35 v37 ⟨k, h⟩ x1 x6 x7 x8 x9)
    else accAt v5 v11 v25 v35 v37 x1 x6 x7 x8 x9 o k

/-- The output tile after the body at point `i`, from `o` before its loop and the ranks `hi`, `lo`, `rt`. -/
def outAfter (i : grid0.Coords) (x3 : Vec F S128x1024 .f32) (x1 : Vec F S1024x1024 .bf16) (x6 : Vec F S1x1024x2048 .bf16) (x7 : Vec F S1x1x2048 .f32) (x8 : Vec F S1x1024x1024 .bf16) (x9 : Vec F S1x1x1024 .f32) (hi lo : Vec F S1024x128 .bf16) (rt : Vec F S128x1024 .f32) (o : Vec F S1024x1024 .f32) : Vec F S1024x1024 .f32 :=
  accAt (k0_pay41 (rowAt i x3)) (k0_pay42 (rowAt i x3) (rowAt i rt)) (k0_pay43 i hi lo) (countAt i x3) (k0_pay45 (F := F)) x1 x6 x7 x8 x9 o
    (k0_t1_loop (countAt i x3)).trips

/-- The ranks' high part, from the gates and the lower triangle. -/
def hiOf (x2 : Vec F S1024x128 .f32) (x4 : Vec F S1024x1024 .bf16) : Vec F S1024x128 .bf16 := k0_pay7 x2 x2 x4
/-- The ranks' low part. -/
def loOf (x2 : Vec F S1024x128 .f32) (x4 : Vec F S1024x1024 .bf16) : Vec F S1024x128 .bf16 := k0_pay39 (k0_pay8 x2 x2 x4)
/-- The ranks by expert, from the gates by expert and the upper triangle. -/
def rtOf (x3 : Vec F S128x1024 .f32) (x5 : Vec F S1024x1024 .bf16) : Vec F S128x1024 .f32 := k0_pay40 (k0_pay4 x3) x5

/-- The body's conditional: the expert is the first. -/
abbrev isFirst (i : grid0.Coords) : Prop :=
  (Scalar.cmpi .ne (Scalar.extui (Scalar.cmpi .eq (BitVec.ofNat 32 (i 1).val) (0#32 : BitVec 32)) : BitVec 32) 0#32) = 1#1

/-- The first loop leaves the output tile its recursion says. -/
theorem loop_run (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S128x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S128x1024 .f32) (harg15 : arg15.IsWhole) (v5 : FVec F S1x1024 .f32) (v11 : Vec F S1x1024 .f32) (v25 : FVec F S1024x160 .f32) (v35 : BitVec 32) (hw : k0_chk1 v35) (v37 : FVec F S160x1024 .f32)
    (x1 : Vec F S1024x1024 .bf16) (x6 : Vec F S1x1024x2048 .bf16) (x7 : Vec F S1x1x2048 .f32) (x8 : Vec F S1x1024x1024 .bf16) (x9 : Vec F S1x1x1024 .f32) (o : Vec F S1024x1024 .f32) (E : Set ℕ) :
    (iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (o)) : sProp 𝕄)
      ⊢ wp frame (wpE (defs₀ (F := F)) Variants.none (c : Thread nD τ) none) E (Scf.Loop.for (k0_t1_loop v35) (k0_t1_ok v35 hw) 0#32 (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v5 v11 v25 v35 hw v37))
          (fun _ => iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9)
            ∗ owns (c : Thread nD τ) arg12 fullShare (accAt v5 v11 v25 v35 v37 x1 x6 x7 x8 x9 o (k0_t1_loop v35).trips))) := by
  have hb : ∀ (k : Fin (k0_t1_loop v35).trips) (acc : BitVec 32),
      (fun (j : ℕ) (_ : BitVec 32) => (iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (accAt v5 v11 v25 v35 v37 x1 x6 x7 x8 x9 o j)) : sProp 𝕄)) k.val acc
        ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v5 v11 v25 v35 hw v37 k acc)
          ((fun (j : ℕ) (_ : BitVec 32) => (iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (accAt v5 v11 v25 v35 v37 x1 x6 x7 x8 x9 o j)) : sProp 𝕄)) (k.val + 1)) := by
    intro k acc
    have e : accAt v5 v11 v25 v35 v37 x1 x6 x7 x8 x9 o (k.val + 1)
        = k0_pay2 (k0_pay22 (accAt v5 v11 v25 v35 v37 x1 x6 x7 x8 x9 o k.val)) (addend v5 v11 v25 v35 v37 k x1 x6 x7 x8 x9) := by
      show (if h : k.val < (k0_t1_loop v35).trips then _ else _) = _
      rw [dif_pos k.isLt]
    simp only [e]
    exact trip_run c i arg2 harg2 arg3 harg3 arg4 harg4 arg5 harg5 arg6 harg6 arg7 harg7 arg8 harg8 arg9 harg9 arg10 harg10 arg11 harg11 arg12 harg12 arg13 harg13 arg14 harg14 arg15 harg15 v5 v11 v25 v35 hw v37 k x1 x6 x7 x8 x9 _ acc E
  have h := Scf.wp_for frame (wpE (defs₀ (F := F)) Variants.none (c : Thread nD τ) none) E _ _ _ (k0_t1_ok v35 hw) 0#32
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v5 v11 v25 v35 hw v37)
    (fun (j : ℕ) (_ : BitVec 32) => (iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (accAt v5 v11 v25 v35 v37 x1 x6 x7 x8 x9 o j)) : sProp 𝕄)) hb
    (Q := fun _ => iprop(owns (c : Thread nD τ) arg3 fullShare (x1) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (accAt v5 v11 v25 v35 v37 x1 x6 x7 x8 x9 o (k0_t1_loop v35).trips)))
  refine .trans ?_ h
  iintro H
  isplitl [H]
  · iexact H
  · iintro %acc H
    iexact H

/-- The body up to its loops, at a point that is not a tile's first: it reads its expert's rows and the ranks. -/
theorem head_next (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S128x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S128x1024 .f32) (harg15 : arg15.IsWhole) (hc : ¬ isFirst i) (x3 : Vec F S128x1024 .f32) (hi lo : Vec F S1024x128 .bf16) (rt : Vec F S128x1024 .f32) (E : Set ℕ) :
    (iprop(owns (c : Thread nD τ) arg5 fullShare (x3) ∗ owns (c : Thread nD τ) arg13 fullShare (hi) ∗ owns (c : Thread nD τ) arg14 fullShare (lo) ∗ owns (c : Thread nD τ) arg15 fullShare (rt)) : sProp 𝕄)
      ⊢ wp frame (wpE (defs₀ (F := F)) Variants.none (c : Thread nD τ) none) E (k0_part10 (F := F) i arg2 harg2 arg3 harg3 arg4 harg4 arg5 harg5 arg6 harg6 arg7 harg7 arg8 harg8 arg9 harg9 arg10 harg10 arg11 harg11 arg12 harg12 arg13 harg13 arg14 harg14 arg15 harg15) (fun z => iprop(⌜z = ⟨k0_pay41 (rowAt i x3), k0_pay42 (rowAt i x3) (rowAt i rt), k0_pay43 i hi lo, countAt i x3, chk_all _, k0_pay45 (F := F)⟩⌝
          ∗ owns (c : Thread nD τ) arg5 fullShare (x3) ∗ owns (c : Thread nD τ) arg13 fullShare (hi) ∗ owns (c : Thread nD τ) arg14 fullShare (lo) ∗ owns (c : Thread nD τ) arg15 fullShare (rt))) := by
  simp only [k0_part10_eq_skeleton]; unfold k0_part10_skel owns
  iintro ⟨⟨%f5, %h5, H5⟩, ⟨%f13, %h13, H13⟩, ⟨%f14, %h14, H14⟩, ⟨%f15, %h15, H15⟩⟩
  subst h5 h13 h14 h15
  have e13 := View.readAt_full (Val := Elt F) arg13.view f13 inb_S1024x128_S1024x128_0_0
  have e14 := View.readAt_full (Val := Elt F) arg14.view f14 inb_S1024x128_S1024x128_0_0
  sl_exec (disch := first | sl_exact hc | sl_exact (chk_all _))
  sl_step
  isplitr
  · ipureintro; rfl
  isplitl [H5]
  · iexists _; isplitr; swap; · iexact H5
    ipureintro; first | rfl | exact e13.symm | exact e14.symm
  isplitl [H13]
  · iexists _; isplitr; swap; · iexact H13
    ipureintro; first | rfl | exact e13.symm | exact e14.symm
  isplitl [H14]
  · iexists _; isplitr; swap; · iexact H14
    ipureintro; first | rfl | exact e13.symm | exact e14.symm
  iexists _; isplitr; swap; · iexact H15
  ipureintro; first | rfl | exact e13.symm | exact e14.symm

set_option maxHeartbeats 1000000 in
/-- The body up to its loops, at a tile's first point: it starts the output tile from the residual, writes the ranks,
then reads its expert's rows and the ranks. -/
theorem head_first (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S128x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S128x1024 .f32) (harg15 : arg15.IsWhole) (hc : isFirst i) (x0 : Vec F S1024x1024 .f32) (x2 : Vec F S1024x128 .f32)
    (x3 : Vec F S128x1024 .f32) (x4 x5 : Vec F S1024x1024 .bf16) (E : Set ℕ) :
    (iprop(owns (c : Thread nD τ) arg2 fullShare (x0) ∗ owns (c : Thread nD τ) arg4 fullShare (x2) ∗ owns (c : Thread nD τ) arg5 fullShare (x3) ∗ owns (c : Thread nD τ) arg6 fullShare (x4) ∗ owns (c : Thread nD τ) arg7 fullShare (x5)
      ∗ (∃ d, owns (c : Thread nD τ) arg12 fullShare (d)) ∗ (∃ d, owns (c : Thread nD τ) arg13 fullShare (d)) ∗ (∃ d, owns (c : Thread nD τ) arg14 fullShare (d)) ∗ (∃ d, owns (c : Thread nD τ) arg15 fullShare (d))) : sProp 𝕄)
      ⊢ wp frame (wpE (defs₀ (F := F)) Variants.none (c : Thread nD τ) none) E (k0_part10 (F := F) i arg2 harg2 arg3 harg3 arg4 harg4 arg5 harg5 arg6 harg6 arg7 harg7 arg8 harg8 arg9 harg9 arg10 harg10 arg11 harg11 arg12 harg12 arg13 harg13 arg14 harg14 arg15 harg15) (fun z => iprop(⌜z = ⟨k0_pay41 (rowAt i x3), k0_pay42 (rowAt i x3) (rowAt i (rtOf x3 x5)), k0_pay43 i (hiOf x2 x4) (loOf x2 x4), countAt i x3, chk_all _, k0_pay45 (F := F)⟩⌝
          ∗ owns (c : Thread nD τ) arg2 fullShare (x0) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg12 fullShare (x0) ∗ owns (c : Thread nD τ) arg13 fullShare (hiOf x2 x4) ∗ owns (c : Thread nD τ) arg14 fullShare (loOf x2 x4) ∗ owns (c : Thread nD τ) arg15 fullShare (rtOf x3 x5))) := by
  simp only [k0_part10_eq_skeleton]; unfold k0_part10_skel; simp only [k0_part1_eq_skeleton]; unfold k0_part1_skel owns
  iintro ⟨⟨%f2, %h2, H2⟩, ⟨%f4, %h4, H4⟩, ⟨%f5, %h5, H5⟩, ⟨%f6, %h6, H6⟩, ⟨%f7, %h7, H7⟩, ⟨%d12, %f12, -, H12⟩, ⟨%d13, %f13, -, H13⟩, ⟨%d14, %f14, -, H14⟩, ⟨%d15, %f15, -, H15⟩⟩
  subst h2 h4 h5 h6 h7
  have e2 := View.readAt_full (Val := Elt F) arg2.view f2 inb_S1024x1024_S1024x1024_0_0
  have e4 := View.readAt_full (Val := Elt F) arg4.view f4 inb_S1024x128_S1024x128_0_0
  have e5 := View.readAt_full (Val := Elt F) arg5.view f5 inb_S128x1024_S128x1024_0_0
  have e6 := View.readAt_full (Val := Elt F) arg6.view f6 inb_S1024x1024_S1024x1024_0_0
  have e7 := View.readAt_full (Val := Elt F) arg7.view f7 inb_S1024x1024_S1024x1024_0_0
  have q13 := (View.readCov_full arg13.view inb_S1024x128_S1024x128_0_0 inb_S1024x128_S1024x128_0_0 (hiOf (View.read (Elt F) arg4.view f4) (View.read (Elt F) arg6.view f6)) []).symm
  have q14 := (View.readCov_full arg14.view inb_S1024x128_S1024x128_0_0 inb_S1024x128_S1024x128_0_0 (loOf (View.read (Elt F) arg4.view f4) (View.read (Elt F) arg6.view f6)) []).symm
  have q15 : rowAt i (rtOf (View.read (Elt F) arg5.view f5) (View.read (Elt F) arg7.view f7))
      = View.readCov arg15.view [⟨Rect.unit (s := S128x1024) ![0, 0] S128x1024.size inb_S128x1024_S128x1024_0_0, rtOf (View.read (Elt F) arg5.view f5) (View.read (Elt F) arg7.view f7)⟩]
        (Rect.unit (s := S128x1024) (k0_off1 i) S1x1024.size (k0_off1_inb i)).toLoadRect :=
    congrArg (rowAt (F := F) i) (View.read_writes_full arg15.view arg15.view.junk inb_S128x1024_S128x1024_0_0 (rtOf _ _) []).symm
  sl_exec (disch := first | sl_exact hc | sl_exact (chk_all _))
  sl_step
  isplitr
  · ipureintro; rw [q15, q13, q14]; rfl
  isplitl [H2]
  · iexists _; isplitr; swap; · iexact H2
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H12]
  · iexists _; isplitr; swap; · iexact H12
    ipureintro; exact View.read_writes_full _ _ _ _ _
  isplitl [H13]
  · iexists _; isplitr; swap; · iexact H13
    ipureintro; exact View.read_writes_full _ _ _ _ _
  isplitl [H14]
  · iexists _; isplitr; swap; · iexact H14
    ipureintro; exact View.read_writes_full _ _ _ _ _
  iexists _; isplitr; swap; · iexact H15
  ipureintro; exact View.read_writes_full _ _ _ _ _

end Cert.KernelIdeal.Moe

end
-- ==== Proof.Whole.lean ====
/- The mixture-of-experts body run whole at one grid point, at a tile's first expert and at a later one. -/
module

public import proofs.«01_k».proof.Proof.Body

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point that is not a tile's first: it leaves the output tile with the point's expert added. -/
theorem body_next (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S128x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S128x1024 .f32) (harg15 : arg15.IsWhole) (hc : ¬ isFirst i) (x0 : Vec F S1024x1024 .f32) (x1 : Vec F S1024x1024 .bf16) (x2 : Vec F S1024x128 .f32) (x3 : Vec F S128x1024 .f32) (x4 x5 : Vec F S1024x1024 .bf16) (x6 : Vec F S1x1024x2048 .bf16) (x7 : Vec F S1x1x2048 .f32) (x8 : Vec F S1x1024x1024 .bf16) (x9 : Vec F S1x1x1024 .f32) (hi lo : Vec F S1024x128 .bf16) (rt : Vec F S128x1024 .f32) (o : Vec F S1024x1024 .f32) (E : Set ℕ) :
    (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (o) ∗ owns (c : Thread nD τ) arg13 fullShare (hi) ∗ owns (c : Thread nD τ) arg14 fullShare (lo) ∗ owns (c : Thread nD τ) arg15 fullShare (rt)) : sProp 𝕄)
      ⊢ wp frame (wpE (defs₀ (F := F)) Variants.none (c : Thread nD τ) none) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15) (fun _ =>
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (outAfter i x3 x1 x6 x7 x8 x9 hi lo rt o) ∗ owns (c : Thread nD τ) arg13 fullShare (hi) ∗ owns (c : Thread nD τ) arg14 fullShare (lo) ∗ owns (c : Thread nD τ) arg15 fullShare (rt))) := by
  simp only [cc0_moe_eq_skeleton]; unfold cc0_moe_skel
  iintro ⟨H2, H3, H4, H5, H6, H7, H8, H9, H10, H11, H12, H13, H14, H15⟩
  irw [wp_bind]
  iapply (wp_wand_r frame (wpE (defs₀ (F := F)) Variants.none (c : Thread nD τ) none) E)
  isplitl [H5 H13 H14 H15]
  · iapply (head_next c i arg2 harg2 arg3 harg3 arg4 harg4 arg5 harg5 arg6 harg6 arg7 harg7 arg8 harg8 arg9 harg9 arg10 harg10 arg11 harg11 arg12 harg12 arg13 harg13 arg14 harg14 arg15 harg15 hc x3 hi lo rt E)
    isplitl [H5]; · iexact H5
    isplitl [H13]; · iexact H13
    isplitl [H14]; · iexact H14
    iexact H15
  iintro %z ⟨%hz, H5, H13, H14, H15⟩
  subst hz
  irw [wp_bind]
  iapply (wp_wand_r frame (wpE (defs₀ (F := F)) Variants.none (c : Thread nD τ) none) E)
  isplitl [H3 H8 H9 H10 H11 H12]
  · iapply (loop_run c i arg2 harg2 arg3 harg3 arg4 harg4 arg5 harg5 arg6 harg6 arg7 harg7 arg8 harg8 arg9 harg9 arg10 harg10 arg11 harg11 arg12 harg12 arg13 harg13 arg14 harg14 arg15 harg15 (k0_pay41 (rowAt i x3)) (k0_pay42 (rowAt i x3) (rowAt i (rt))) (k0_pay43 i (hi) (lo)) (countAt i x3) (chk_all _) (k0_pay45 (F := F)) x1 x6 x7 x8 x9 (o) E)
    isplitl [H3]; · iexact H3
    isplitl [H8]; · iexact H8
    isplitl [H9]; · iexact H9
    isplitl [H10]; · iexact H10
    isplitl [H11]; · iexact H11
    iexact H12
  iintro %acc ⟨H3, H8, H9, H10, H11, H12⟩
  irw [wp_bind]
  iapply (Scf.wp_for0' frame (wpE (defs₀ (F := F)) Variants.none (c : Thread nD τ) none) E _ _ _ _ _ _ (t2_trips _) _ _ .rfl)
  irw [wp_pure]
  imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at a tile's first point: it starts the output tile from the residual, writes the ranks, and adds the first expert. -/
theorem body_first (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S128x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1024x2048 .bf16) (harg8 : arg8.IsWhole) (arg9 : Memref sig .tc .vmem S1x1x2048 .f32) (harg9 : arg9.IsWhole) (arg10 : Memref sig .tc .vmem S1x1024x1024 .bf16) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x128 .bf16) (harg13 : arg13.IsWhole) (arg14 : Memref sig .tc .vmem S1024x128 .bf16) (harg14 : arg14.IsWhole) (arg15 : Memref sig .tc .vmem S128x1024 .f32) (harg15 : arg15.IsWhole) (hc : isFirst i) (x0 : Vec F S1024x1024 .f32) (x1 : Vec F S1024x1024 .bf16) (x2 : Vec F S1024x128 .f32) (x3 : Vec F S128x1024 .f32) (x4 x5 : Vec F S1024x1024 .bf16) (x6 : Vec F S1x1024x2048 .bf16) (x7 : Vec F S1x1x2048 .f32) (x8 : Vec F S1x1024x1024 .bf16) (x9 : Vec F S1x1x1024 .f32) (E : Set ℕ) :
    (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ (∃ d, owns (c : Thread nD τ) arg12 fullShare (d)) ∗ (∃ d, owns (c : Thread nD τ) arg13 fullShare (d)) ∗ (∃ d, owns (c : Thread nD τ) arg14 fullShare (d)) ∗ (∃ d, owns (c : Thread nD τ) arg15 fullShare (d))) : sProp 𝕄)
      ⊢ wp frame (wpE (defs₀ (F := F)) Variants.none (c : Thread nD τ) none) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15) (fun _ =>
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (outAfter i x3 x1 x6 x7 x8 x9 (hiOf x2 x4) (loOf x2 x4) (rtOf x3 x5) x0) ∗ owns (c : Thread nD τ) arg13 fullShare (hiOf x2 x4) ∗ owns (c : Thread nD τ) arg14 fullShare (loOf x2 x4) ∗ owns (c : Thread nD τ) arg15 fullShare (rtOf x3 x5))) := by
  simp only [cc0_moe_eq_skeleton]; unfold cc0_moe_skel
  iintro ⟨H2, H3, H4, H5, H6, H7, H8, H9, H10, H11, H12, H13, H14, H15⟩
  irw [wp_bind]
  iapply (wp_wand_r frame (wpE (defs₀ (F := F)) Variants.none (c : Thread nD τ) none) E)
  isplitl [H2 H4 H5 H6 H7 H12 H13 H14 H15]
  · iapply (head_first c i arg2 harg2 arg3 harg3 arg4 harg4 arg5 harg5 arg6 harg6 arg7 harg7 arg8 harg8 arg9 harg9 arg10 harg10 arg11 harg11 arg12 harg12 arg13 harg13 arg14 harg14 arg15 harg15 hc x0 x2 x3 x4 x5 E)
    isplitl [H2]; · iexact H2
    isplitl [H4]; · iexact H4
    isplitl [H5]; · iexact H5
    isplitl [H6]; · iexact H6
    isplitl [H7]; · iexact H7
    isplitl [H12]; · iexact H12
    isplitl [H13]; · iexact H13
    isplitl [H14]; · iexact H14
    iexact H15
  iintro %z ⟨%hz, H2, H4, H5, H6, H7, H12, H13, H14, H15⟩
  subst hz
  irw [wp_bind]
  iapply (wp_wand_r frame (wpE (defs₀ (F := F)) Variants.none (c : Thread nD τ) none) E)
  isplitl [H3 H8 H9 H10 H11 H12]
  · iapply (loop_run c i arg2 harg2 arg3 harg3 arg4 harg4 arg5 harg5 arg6 harg6 arg7 harg7 arg8 harg8 arg9 harg9 arg10 harg10 arg11 harg11 arg12 harg12 arg13 harg13 arg14 harg14 arg15 harg15 (k0_pay41 (rowAt i x3)) (k0_pay42 (rowAt i x3) (rowAt i (rtOf x3 x5))) (k0_pay43 i (hiOf x2 x4) (loOf x2 x4)) (countAt i x3) (chk_all _) (k0_pay45 (F := F)) x1 x6 x7 x8 x9 (x0) E)
    isplitl [H3]; · iexact H3
    isplitl [H8]; · iexact H8
    isplitl [H9]; · iexact H9
    isplitl [H10]; · iexact H10
    isplitl [H11]; · iexact H11
    iexact H12
  iintro %acc ⟨H3, H8, H9, H10, H11, H12⟩
  irw [wp_bind]
  iapply (Scf.wp_for0' frame (wpE (defs₀ (F := F)) Variants.none (c : Thread nD τ) none) E _ _ _ _ _ _ (t2_trips _) _ _ .rfl)
  irw [wp_pure]
  imodintro
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.KernelIdeal.Moe

end
-- ==== Proof.Math.lean ====
/- The mathematics of one expert of the mixture: the clamped swish-gated unit, an expert's output for one token, and the
place of a token among the tokens an expert takes. -/
module

public import Idealize.ShloMosaic.Lib.Pointwise

@[expose] public section

set_option maxRecDepth 16384

noncomputable section

namespace Cert.MoeMath

open Idealize.ShloMosaic Idealize.ShloMosaic.TcCoe Idealize.SL.Sem

/-- The clamped swish-gated linear unit of a gate value and a linear value. -/
def swiglu (a b : EReal) : EReal :=
  min a (Ideal.ofBits .f32 0x40E00000#32) * Ideal.logistic (Ideal.ofBits .f32 0x3FD9DB23#32 * min a (Ideal.ofBits .f32 0x40E00000#32))
    * (min (Ideal.ofBits .f32 0x40E00000#32) (max (Ideal.ofBits .f32 0xC0E00000#32) b) + 1)

/-- One expert's output, at one column, for a token `x`: gate columns `wg`, linear columns `wl`, their biases, the
down projection `v` and its bias. -/
def expertOut (x : Fin 1024 → EReal) (wg wl : Fin 1024 → Fin 1024 → EReal) (bg bl : Fin 1024 → EReal)
    (v : Fin 1024 → EReal) (u : EReal) : EReal :=
  ∑ f : Fin 1024, swiglu (∑ d : Fin 1024, x d * wg d f + bg f) (∑ d : Fin 1024, x d * wl d f + bl f) * v f + u

/-- The column of feature `f`'s gate value when groups of 128 gate columns and 128 linear columns alternate. -/
def gateCol (f : Fin 1024) : Fin 2048 := ⟨256 * (f.val / 128) + f.val % 128, by omega⟩

/-- The column of feature `f`'s linear value when groups of 128 gate columns and 128 linear columns alternate. -/
def linCol (f : Fin 1024) : Fin 2048 := ⟨256 * (f.val / 128) + 128 + f.val % 128, by omega⟩

open Classical in
/-- How many tokens before `t` have a positive gate. -/
def place (g : Fin 1024 → EReal) (t : Fin 1024) : ℕ := (Finset.univ.filter fun b : Fin 1024 => b < t ∧ 0 < g b).card

open Classical in
/-- How many tokens have a positive gate. -/
def total (g : Fin 1024 → EReal) : ℕ := (Finset.univ.filter fun b : Fin 1024 => 0 < g b).card

open Classical in
/-- The slot written for a token: its place among the tokens with a positive gate, or minus one. -/
def slot (g : Fin 1024 → EReal) (t : Fin 1024) : EReal := if 0 < g t then ((place g t : ℝ) : EReal) else ((-1 : ℝ) : EReal)

/-- The place of a token with a positive gate is less than the number of such tokens. -/
theorem place_lt (g : Fin 1024 → EReal) (t : Fin 1024) (h : 0 < g t) : place g t < total g := by
  classical
  unfold place total
  refine Finset.card_lt_card ?_
  refine Finset.ssubset_iff_subset_ne.mpr ⟨fun b hb => ?_, fun he => ?_⟩
  · simp only [Finset.mem_filter, Finset.mem_univ, true_and] at hb ⊢
    exact hb.2
  · have : t ∈ Finset.univ.filter fun b : Fin 1024 => b < t ∧ 0 < g b := by rw [he]; simp [h]
    simp at this

/-- No more tokens have a positive gate than there are tokens. -/
theorem total_le (g : Fin 1024 → EReal) : total g ≤ 1024 := by
  classical
  unfold total
  exact (Finset.card_le_univ _).trans (by simp)

/-- Of two tokens with a positive gate the earlier has the smaller place. -/
theorem place_mono (g : Fin 1024 → EReal) (a b : Fin 1024) (ha : 0 < g a) (h : a < b) : place g a < place g b := by
  classical
  unfold place
  refine Finset.card_lt_card ?_
  refine Finset.ssubset_iff_subset_ne.mpr ⟨fun c hc => ?_, fun he => ?_⟩
  · simp only [Finset.mem_filter, Finset.mem_univ, true_and] at hc ⊢
    exact ⟨hc.1.trans h, hc.2⟩
  · have : a ∈ Finset.univ.filter fun c : Fin 1024 => c < a ∧ 0 < g c := by rw [he]; simp [h, ha]
    simp at this

/-- Tokens with a positive gate at the same place are the same token. -/
theorem place_inj (g : Fin 1024 → EReal) (a b : Fin 1024) (ha : 0 < g a) (hb : 0 < g b) (h : place g a = place g b) : a = b := by
  rcases lt_trichotomy a b with h' | h' | h'
  · exact absurd h (Nat.ne_of_lt (place_mono g a b ha h'))
  · exact h'
  · exact absurd h (Nat.ne_of_gt (place_mono g b a hb h'))

/-- A slot less a base is a row number exactly when the token has a positive gate and its place is base plus row. -/
theorem slot_iff (g : Fin 1024 → EReal) (t : Fin 1024) (b r : ℕ) :
    slot g t - ((b : ℝ) : EReal) = ((r : ℝ) : EReal) ↔ 0 < g t ∧ place g t = b + r := by
  unfold slot
  split
  case isTrue h =>
    rw [← EReal.coe_sub, EReal.coe_eq_coe_iff]
    constructor
    · intro h'
      refine ⟨h, ?_⟩
      have : (place g t : ℝ) = ((b + r : ℕ) : ℝ) := by push_cast; linarith
      exact_mod_cast this
    · rintro ⟨-, h'⟩
      rw [h']; push_cast; ring
  case isFalse h =>
    rw [← EReal.coe_sub, EReal.coe_eq_coe_iff]
    constructor
    · intro h'
      have hb : (0 : ℝ) ≤ b := Nat.cast_nonneg b
      have hr : (0 : ℝ) ≤ r := Nat.cast_nonneg r
      linarith
    · rintro ⟨h', -⟩
      exact absurd h' h

/-- A sum against an indicator that holds at one index alone is the value there. -/
theorem sum_one {ι : Type} [Fintype ι] (p : ι → Prop) [DecidablePred p] (i : ι) (hp : ∀ j, p j ↔ j = i) (f : ι → EReal) :
    ∑ j, (if p j then (1 : EReal) else 0) * f j = f i := by
  rw [Finset.sum_eq_single i]
  · rw [if_pos ((hp i).mpr rfl), one_mul]
  · intro j _ hj
    rw [if_neg (fun h => hj ((hp j).mp h)), zero_mul]
  · intro h; exact absurd (Finset.mem_univ i) h

/-- A sum against an indicator that never holds is zero. -/
theorem sum_none {ι : Type} [Fintype ι] (p : ι → Prop) [DecidablePred p] (hp : ∀ j, ¬ p j) (f : ι → EReal) :
    ∑ j, (if p j then (1 : EReal) else 0) * f j = 0 :=
  Finset.sum_eq_zero fun j _ => by rw [if_neg (hp j), zero_mul]

/-- Counting by adding ones. -/
theorem sum_ones {ι : Type} [Fintype ι] (p : ι → Prop) [DecidablePred p] :
    ∑ j, (if p j then (1 : EReal) else 0) = (((Finset.univ.filter p).card : ℝ) : EReal) := by
  classical
  rw [Finset.sum_ite, Finset.sum_const_zero, add_zero, Finset.sum_const, nsmul_one]
  norm_cast

end Cert.MoeMath

end
-- ==== Proof.Trips.lean ====
/- What one trip of the block loop adds to the output tile, read at an index: the rows picked, their expert's output
scaled by the gate, put back. -/
module

public import proofs.«01_k».proof.Proof.Whole
public import proofs.«01_k».proof.Proof.Math

@[expose] public section

set_option maxRecDepth 16384

noncomputable section

namespace Cert.KernelIdeal.Moe

open Cert.KernelIdeal.Gen Cert.MoeMath
open Idealize.ShloMosaic Idealize.ShloMosaic.TcCoe Idealize.SL.Sem

/-- The activation of the group starting at column 512. -/
theorem group2_at (H : FVec Ideal S160x2048 .f32) (r : Fin 160) (l : Fin 128) :
    k0_pay16 H (ix2 r l) = swiglu (H (ix2 r ⟨512 + l.val, by omega⟩)) (H (ix2 r ⟨640 + l.val, by omega⟩)) := by
  pointwise [k0_pay16, swiglu]

/-- The activation of the group starting at column 768. -/
theorem group3_at (H : FVec Ideal S160x2048 .f32) (r : Fin 160) (l : Fin 128) :
    k0_pay17 H (ix2 r l) = swiglu (H (ix2 r ⟨768 + l.val, by omega⟩)) (H (ix2 r ⟨896 + l.val, by omega⟩)) := by
  pointwise [k0_pay17, swiglu]

/-- The activation of the group starting at column 1024. -/
theorem group4_at (H : FVec Ideal S160x2048 .f32) (r : Fin 160) (l : Fin 128) :
    k0_pay19 H (k0_pay18 H) (Scalar.ofBits .f32 0x40E00000#32) (ix2 r l) = swiglu (H (ix2 r ⟨1024 + l.val, by omega⟩)) (H (ix2 r ⟨1152 + l.val, by omega⟩)) := by
  pointwise [k0_pay19, k0_pay18, swiglu]

/-- The activation of the group starting at column 1280. -/
theorem group5_at (H : FVec Ideal S160x2048 .f32) (r : Fin 160) (l : Fin 128) :
    k0_pay20 H (ix2 r l) = swiglu (H (ix2 r ⟨1280 + l.val, by omega⟩)) (H (ix2 r ⟨1408 + l.val, by omega⟩)) := by
  pointwise [k0_pay20, swiglu]

/-- The activation of the group starting at column 1536. -/
theorem group6_at (H : FVec Ideal S160x2048 .f32) (r : Fin 160) (l : Fin 128) :
    k0_pay21 H (ix2 r l) = swiglu (H (ix2 r ⟨1536 + l.val, by omega⟩)) (H (ix2 r ⟨1664 + l.val, by omega⟩)) := by
  pointwise [k0_pay21, swiglu]

/-- The activation of the group starting at column 0. -/
theorem group0_at (v11 : Vec Ideal S1x1024 .f32) (v35 : BitVec 32) (v37 : FVec Ideal S160x1024 .f32) (k : Fin (k0_t1_loop v35).trips) (x1 : Vec Ideal S1024x1024 .bf16) (x6 : Vec Ideal S1x1024x2048 .bf16) (x7 : Vec Ideal S1x1x2048 .f32) (r : Fin 160) (l : Fin 128) :
    k0_pay12 v11 v35 v37 0#32 1#32 k x1 x6 x7 (ix2 r l) = swiglu (k0_pay11 v11 v35 v37 0#32 1#32 k x1 x6 x7 (ix2 r ⟨0 + l.val, by omega⟩)) (k0_pay11 v11 v35 v37 0#32 1#32 k x1 x6 x7 (ix2 r ⟨128 + l.val, by omega⟩)) := by
  pointwise [k0_pay12, swiglu]

/-- The activation of the group starting at column 256. -/
theorem group1_at (v11 : Vec Ideal S1x1024 .f32) (v35 : BitVec 32) (v37 : FVec Ideal S160x1024 .f32) (k : Fin (k0_t1_loop v35).trips) (x1 : Vec Ideal S1024x1024 .bf16) (x6 : Vec Ideal S1x1024x2048 .bf16) (x7 : Vec Ideal S1x1x2048 .f32) (r : Fin 160) (l : Fin 128) :
    k0_pay15 (k0_pay13 v11 v35 v37 0#32 1#32 k x1 x6 x7) (k0_pay14 v11 v35 v37 0#32 1#32 k x1 x6 x7) (ix2 r l) = swiglu (k0_pay11 v11 v35 v37 0#32 1#32 k x1 x6 x7 (ix2 r ⟨256 + l.val, by omega⟩)) (k0_pay11 v11 v35 v37 0#32 1#32 k x1 x6 x7 (ix2 r ⟨384 + l.val, by omega⟩)) := by
  pointwise [k0_pay15, k0_pay13, k0_pay14, swiglu]

/-- Eight groups of 128 side by side, read at a feature. -/
theorem groups_at (h : Fin 2048 → EReal) (A0 A1 A2 A3 A4 A5 A6 A7 : Fin 128 → EReal)
    (h0 : ∀ l, A0 l = swiglu (h ⟨0 + l.val, by omega⟩) (h ⟨128 + l.val, by omega⟩))
    (h1 : ∀ l, A1 l = swiglu (h ⟨256 + l.val, by omega⟩) (h ⟨384 + l.val, by omega⟩))
    (h2 : ∀ l, A2 l = swiglu (h ⟨512 + l.val, by omega⟩) (h ⟨640 + l.val, by omega⟩))
    (h3 : ∀ l, A3 l = swiglu (h ⟨768 + l.val, by omega⟩) (h ⟨896 + l.val, by omega⟩))
    (h4 : ∀ l, A4 l = swiglu (h ⟨1024 + l.val, by omega⟩) (h ⟨1152 + l.val, by omega⟩))
    (h5 : ∀ l, A5 l = swiglu (h ⟨1280 + l.val, by omega⟩) (h ⟨1408 + l.val, by omega⟩))
    (h6 : ∀ l, A6 l = swiglu (h ⟨1536 + l.val, by omega⟩) (h ⟨1664 + l.val, by omega⟩))
    (h7 : ∀ l, A7 l = swiglu (h ⟨1792 + l.val, by omega⟩) (h ⟨1920 + l.val, by omega⟩))
    (f : Fin 1024) : (if h : f.val < 128 then A0 ⟨f.val, h⟩ else if h : f.val - 128 < 128 then A1 ⟨f.val - 128, h⟩ else if h : f.val - 128 - 128 < 128 then A2 ⟨f.val - 128 - 128, h⟩ else if h : f.val - 128 - 128 - 128 < 128 then A3 ⟨f.val - 128 - 128 - 128, h⟩ else if h : f.val - 128 - 128 - 128 - 128 < 128 then A4 ⟨f.val - 128 - 128 - 128 - 128, h⟩ else if h : f.val - 128 - 128 - 128 - 128 - 128 < 128 then A5 ⟨f.val - 128 - 128 - 128 - 128 - 128, h⟩ else if h : f.val - 128 - 128 - 128 - 128 - 128 - 128 < 128 then A6 ⟨f.val - 128 - 128 - 128 - 128 - 128 - 128, h⟩ else A7 ⟨f.val - 128 - 128 - 128 - 128 - 128 - 128 - 128, by omega⟩) = swiglu (h (gateCol f)) (h (linCol f)) := by
  have key : ∀ (g : ℕ) (l : Fin 128) (p q), f.val = 128 * g + l.val →
      swiglu (h ⟨256 * g + l.val, p⟩) (h ⟨256 * g + 128 + l.val, q⟩) = swiglu (h (gateCol f)) (h (linCol f)) := by
    intro g l p q e
    have e1 : f.val / 128 = g := by omega
    have e2 : f.val % 128 = l.val := by omega
    unfold gateCol linCol
    simp only [e1, e2]
  by_cases c0 : f.val < 128
  · rw [dif_pos c0, h0]; exact key 0 ⟨f.val, c0⟩ (by simp only []; omega) (by simp only []; omega) (by simp only []; omega)
  rw [dif_neg c0]
  by_cases c1 : f.val - 128 < 128
  · rw [dif_pos c1, h1]; exact key 1 ⟨f.val - 128, c1⟩ (by simp only []; omega) (by simp only []; omega) (by simp only []; omega)
  rw [dif_neg c1]
  by_cases c2 : f.val - 128 - 128 < 128
  · rw [dif_pos c2, h2]; exact key 2 ⟨f.val - 128 - 128, c2⟩ (by simp only []; omega) (by simp only []; omega) (by simp only []; omega)
  rw [dif_neg c2]
  by_cases c3 : f.val - 128 - 128 - 128 < 128
  · rw [dif_pos c3, h3]; exact key 3 ⟨f.val - 128 - 128 - 128, c3⟩ (by simp only []; omega) (by simp only []; omega) (by simp only []; omega)
  rw [dif_neg c3]
  by_cases c4 : f.val - 128 - 128 - 128 - 128 < 128
  · rw [dif_pos c4, h4]; exact key 4 ⟨f.val - 128 - 128 - 128 - 128, c4⟩ (by simp only []; omega) (by simp only []; omega) (by simp only []; omega)
  rw [dif_neg c4]
  by_cases c5 : f.val - 128 - 128 - 128 - 128 - 128 < 128
  · rw [dif_pos c5, h5]; exact key 5 ⟨f.val - 128 - 128 - 128 - 128 - 128, c5⟩ (by simp only []; omega) (by simp only []; omega) (by simp only []; omega)
  rw [dif_neg c5]
  by_cases c6 : f.val - 128 - 128 - 128 - 128 - 128 - 128 < 128
  · rw [dif_pos c6, h6]; exact key 6 ⟨f.val - 128 - 128 - 128 - 128 - 128 - 128, c6⟩ (by simp only []; omega) (by simp only []; omega) (by simp only []; omega)
  rw [dif_neg c6]
  rw [h7]; exact key 7 ⟨f.val - 128 - 128 - 128 - 128 - 128 - 128 - 128, by omega⟩ (by simp only []; omega) (by simp only []; omega) (by simp only []; omega)

/-- A block's hidden row: the picked tokens against the fused weights, the bias added. -/
theorem hidden_at (v11 : Vec Ideal S1x1024 .f32) (v35 : BitVec 32) (v37 : FVec Ideal S160x1024 .f32) (k : Fin (k0_t1_loop v35).trips) (x1 : Vec Ideal S1024x1024 .bf16) (x6 : Vec Ideal S1x1024x2048 .bf16) (x7 : Vec Ideal S1x1x2048 .f32) (r : Fin 160) (q : Fin 2048) :
    k0_pay11 v11 v35 v37 0#32 1#32 k x1 x6 x7 (ix2 r q) = ∑ d : Fin 1024, (∑ t : Fin 1024, (k0_pay10 v11 v35 v37 0#32 1#32 k (ix2 r t) : EReal) * x1 (ix2 t d)) * x6 (ix3 0 d q) + x7 (ix3 0 0 q) := by
  pointwise [k0_pay11]

/-- The addend of one trip: the put indicator against the picked rows' outputs times their gates. -/
theorem addend_at (v5 : FVec Ideal S1x1024 .f32) (v25 : FVec Ideal S1024x160 .f32) (v67 : Ideal .f32) (v74 : FVec Ideal S160x1024 .f32) (H : FVec Ideal S160x2048 .f32)
    (a0 a1 a2 a3 a4 a5 : FVec Ideal S160x128 .bf16) (a6 : FVec Ideal S160x128 .f32) (x8 : Vec Ideal S1x1024x1024 .bf16) (x9 : Vec Ideal S1x1x1024 .f32)
    (h0 : ∀ (r : Fin 160) (l : Fin 128), a0 (ix2 r l) = swiglu (H (ix2 r ⟨0 + l.val, by omega⟩)) (H (ix2 r ⟨128 + l.val, by omega⟩)))
    (h1 : ∀ (r : Fin 160) (l : Fin 128), a1 (ix2 r l) = swiglu (H (ix2 r ⟨256 + l.val, by omega⟩)) (H (ix2 r ⟨384 + l.val, by omega⟩)))
    (h2 : ∀ (r : Fin 160) (l : Fin 128), a2 (ix2 r l) = swiglu (H (ix2 r ⟨512 + l.val, by omega⟩)) (H (ix2 r ⟨640 + l.val, by omega⟩)))
    (h3 : ∀ (r : Fin 160) (l : Fin 128), a3 (ix2 r l) = swiglu (H (ix2 r ⟨768 + l.val, by omega⟩)) (H (ix2 r ⟨896 + l.val, by omega⟩)))
    (h4 : ∀ (r : Fin 160) (l : Fin 128), a4 (ix2 r l) = swiglu (H (ix2 r ⟨1024 + l.val, by omega⟩)) (H (ix2 r ⟨1152 + l.val, by omega⟩)))
    (h5 : ∀ (r : Fin 160) (l : Fin 128), a5 (ix2 r l) = swiglu (H (ix2 r ⟨1280 + l.val, by omega⟩)) (H (ix2 r ⟨1408 + l.val, by omega⟩)))
    (h6 : ∀ (r : Fin 160) (l : Fin 128), a6 (ix2 r l) = swiglu (H (ix2 r ⟨1536 + l.val, by omega⟩)) (H (ix2 r ⟨1664 + l.val, by omega⟩)))
    (t : Fin 1024) (q : Fin 1024) :
    k0_pay23 v5 v25 (k0_pay1 (F := Ideal)) v67 v74 H a0 a1 a2 a3 a4 a5 a6 x8 x9 (ix2 t q) =
      ∑ r : Fin 160, (if v25 (ix2 t r) - v67 = (((r.val : ℕ) : ℝ) : EReal) then (1 : EReal) else 0) *
        ((∑ f : Fin 1024, swiglu (H (ix2 r (gateCol f))) (H (ix2 r (linCol f))) * x8 (ix3 0 f q) + x9 (ix3 0 0 q))
          * ∑ s : Fin 1024, (v74 (ix2 r s) : EReal) * v5 (ix2 0 s)) := by
  pointwise [k0_pay23, k0_pay1]
  refine Finset.sum_congr rfl fun r _ => ?_
  have hr : (FloatOps.sitofp .f32 (BitVec.ofNat 32 r.val) : Ideal .f32) = (((r.val : ℕ) : ℝ) : EReal) := by
    show (((BitVec.ofNat 32 r.val).toInt : ℝ) : EReal) = _
    have : (BitVec.ofNat 32 r.val).toInt = (r.val : ℤ) := by
      rw [BitVec.toInt_eq_toNat_of_lt] <;> rw [BitVec.toNat_ofNat] <;> omega
    rw [this]; norm_cast
  rw [hr]
  refine congrArg₂ (· * ·) rfl (congrArg₂ (· * ·) (congrArg₂ (· + ·) (Finset.sum_congr rfl fun f _ => congrArg₂ (· * ·) ?_ rfl) rfl) rfl)
  exact groups_at (fun c => H (ix2 r c)) (fun l => a0 (ix2 r l)) (fun l => a1 (ix2 r l)) (fun l => a2 (ix2 r l)) (fun l => a3 (ix2 r l))
    (fun l => a4 (ix2 r l)) (fun l => a5 (ix2 r l)) (fun l => a6 (ix2 r l)) _
    (h0 r) (h1 r) (h2 r) (h3 r) (h4 r) (h5 r) (h6 r) (fun l => rfl) f

end Cert.KernelIdeal.Moe

end
-- ==== Proof.Blocks.lean ====
/- One trip of the block loop in terms of tokens: the tokens whose place falls in the block each get their expert's
output times their gate, the others nothing; and all the trips together. -/
module

public import proofs.«01_k».proof.Proof.Trips

@[expose] public section

set_option maxRecDepth 16384

noncomputable section

namespace Cert.KernelIdeal.Moe

open Cert.KernelIdeal.Gen Cert.MoeMath
open Idealize.ShloMosaic Idealize.ShloMosaic.TcCoe Idealize.SL.Sem

/-- A word of at most 2048 read as a signed number. -/
theorem toInt_small (n : ℕ) (h : n ≤ 2048) : (BitVec.ofNat 32 n).toInt = (n : ℤ) := by
  rw [BitVec.toInt_eq_toNat_of_lt] <;> rw [BitVec.toNat_ofNat] <;> omega

/-- The base of a block, as a number. -/
theorem base_at (v : BitVec 32) (k : Fin (k0_t1_loop v).trips) (hk : k.val < 8) :
    (k0_pay9 (F := Ideal) v 0#32 1#32 k : EReal) = (((160 * k.val : ℕ) : ℝ) : EReal) := by
  have e : Scalar.muli (Scf.iv 0#32 1#32 k.val) 160#32 = BitVec.ofNat 32 (160 * k.val) := by
    generalize k.val = n at hk
    interval_cases n <;> rfl
  show (((Scalar.muli (Scf.iv 0#32 1#32 k.val) 160#32).toInt : ℝ) : EReal) = _
  rw [e, toInt_small _ (by omega)]
  norm_cast

/-- The row number, as a number. -/
theorem row_at (r : Fin 160) (t : Fin 1024) : (k0_pay45 (F := Ideal) (ix2 r t) : EReal) = (((r.val : ℕ) : ℝ) : EReal) := by
  have e : (k0_pay45 (F := Ideal) (ix2 r t) : EReal) = (((BitVec.ofNat 32 r.val).toInt : ℝ) : EReal) := by
    pointwise [k0_pay45]
    rfl
  rw [e, toInt_small _ (by omega)]
  norm_cast

/-- The pick matrix of a block: one where the token's place is the block's row. -/
theorem pick_at (v11 : Vec Ideal S1x1024 .f32) (v : BitVec 32) (k : Fin (k0_t1_loop v).trips) (hk : k.val < 8)
    (g : Fin 1024 → EReal) (h11 : ∀ s, v11 (ix2 0 s) = slot g s) (r : Fin 160) (t : Fin 1024) :
    (k0_pay10 v11 v k0_pay45 0#32 1#32 k (ix2 r t) : EReal) = if 0 < g t ∧ place g t = 160 * k.val + r.val then (1 : EReal) else 0 := by
  have e : (k0_pay10 v11 v k0_pay45 0#32 1#32 k (ix2 r t) : EReal)
      = if (v11 (ix2 0 t) : EReal) - k0_pay9 (F := Ideal) v 0#32 1#32 k = k0_pay45 (F := Ideal) (ix2 r t) then (1 : EReal) else 0 := by
    pointwise [k0_pay10]
  rw [e, base_at v k hk, row_at]
  rw [show (v11 (ix2 0 t) : EReal) = slot g t from h11 t]
  exact if_congr (slot_iff g t _ _) rfl rfl

/-- What a token gets from an expert: the expert's output times the gate when the gate is positive. -/
def gain (g : Fin 1024 → EReal) (x1 : Vec Ideal S1024x1024 .bf16) (x6 : Vec Ideal S1x1024x2048 .bf16) (x7 : Vec Ideal S1x1x2048 .f32)
    (x8 : Vec Ideal S1x1024x1024 .bf16) (x9 : Vec Ideal S1x1x1024 .f32) (t q : Fin 1024) : EReal :=
  expertOut (fun d => x1 (ix2 t d)) (fun d f => x6 (ix3 0 d (gateCol f))) (fun d f => x6 (ix3 0 d (linCol f)))
    (fun f => x7 (ix3 0 0 (gateCol f))) (fun f => x7 (ix3 0 0 (linCol f))) (fun f => x8 (ix3 0 f q)) (x9 (ix3 0 0 q)) * g t

/-- One trip's addend at a token: its gain when its place falls in the block, zero otherwise. -/
theorem addend_token (v5 : FVec Ideal S1x1024 .f32) (v11 : Vec Ideal S1x1024 .f32) (v25 : FVec Ideal S1024x160 .f32) (v : BitVec 32)
    (k : Fin (k0_t1_loop v).trips) (hk : k.val < 8) (x1 : Vec Ideal S1024x1024 .bf16) (x6 : Vec Ideal S1x1024x2048 .bf16)
    (x7 : Vec Ideal S1x1x2048 .f32) (x8 : Vec Ideal S1x1024x1024 .bf16) (x9 : Vec Ideal S1x1x1024 .f32) (g : Fin 1024 → EReal)
    (hg : ∀ s, v5 (ix2 0 s) = g s) (h11 : ∀ s, v11 (ix2 0 s) = slot g s) (h25 : ∀ s r, v25 (ix2 s r) = slot g s) (t q : Fin 1024) :
    addend v5 v11 v25 v k0_pay45 k x1 x6 x7 x8 x9 (ix2 t q)
      = if 0 < g t ∧ place g t / 160 = k.val then gain g x1 x6 x7 x8 x9 t q else 0 := by
  unfold addend
  rw [addend_at v5 v25 _ _ _ _ _ _ _ _ _ _ x8 x9 (group0_at _ _ _ _ _ _ _) (group1_at _ _ _ _ _ _ _) (group2_at _) (group3_at _)
    (group4_at _) (group5_at _) (group6_at _) t q]
  have hput : ∀ r : Fin 160, (v25 (ix2 t r) - k0_pay9 (F := Ideal) v 0#32 1#32 k = (((r.val : ℕ) : ℝ) : EReal))
      ↔ 0 < g t ∧ place g t = 160 * k.val + r.val := by
    intro r
    rw [base_at v k hk, show (v25 (ix2 t r) : EReal) = slot g t from h25 t r]
    exact slot_iff g t _ _
  by_cases c : 0 < g t ∧ place g t / 160 = k.val
  · rw [if_pos c]
    have hr : place g t % 160 < 160 := Nat.mod_lt _ (by norm_num)
    have hone : ∀ s : Fin 1024, (0 < g s ∧ place g s = 160 * k.val + place g t % 160) ↔ s = t := by
      intro s
      constructor
      · rintro ⟨hs, e⟩
        exact place_inj g s t hs c.1 (by omega)
      · rintro rfl
        exact ⟨c.1, by omega⟩
    rw [sum_one _ (⟨place g t % 160, hr⟩ : Fin 160) (fun r => (hput r).trans ⟨fun h => Fin.ext (by have := h.2; simp only []; omega),
      fun h => ⟨c.1, by rw [h]; simp only []; omega⟩⟩)]
    simp only [hidden_at, pick_at v11 v k hk g h11]
    unfold gain expertOut
    refine congrArg₂ (· * ·) (congrArg₂ (· + ·) (Finset.sum_congr rfl fun f _ => congrArg₂ (· * ·) (congrArg₂ swiglu ?_ ?_) rfl) rfl) ?_
    · exact congrArg₂ (· + ·) (Finset.sum_congr rfl fun d _ => congrArg₂ (· * ·) (sum_one _ t hone fun s => x1 (ix2 s d)) rfl) rfl
    · exact congrArg₂ (· + ·) (Finset.sum_congr rfl fun d _ => congrArg₂ (· * ·) (sum_one _ t hone fun s => x1 (ix2 s d)) rfl) rfl
    · exact (sum_one _ t hone fun s => v5 (ix2 0 s)).trans (hg t)
  · rw [if_neg c]
    exact sum_none _ (fun r h => c ⟨((hput r).mp h).1, by have := ((hput r).mp h).2; omega⟩) _

/-- After `n` trips each token with a positive gate whose place is in one of the blocks done has its gain added. -/
theorem accAt_token (v5 : FVec Ideal S1x1024 .f32) (v11 : Vec Ideal S1x1024 .f32) (v25 : FVec Ideal S1024x160 .f32) (v : BitVec 32)
    (x1 : Vec Ideal S1024x1024 .bf16) (x6 : Vec Ideal S1x1024x2048 .bf16)
    (x7 : Vec Ideal S1x1x2048 .f32) (x8 : Vec Ideal S1x1024x1024 .bf16) (x9 : Vec Ideal S1x1x1024 .f32) (o : Vec Ideal S1024x1024 .f32)
    (g : Fin 1024 → EReal) (hT : (k0_t1_loop v).trips ≤ 8)
    (hg : ∀ s, v5 (ix2 0 s) = g s) (h11 : ∀ s, v11 (ix2 0 s) = slot g s) (h25 : ∀ s r, v25 (ix2 s r) = slot g s) (t q : Fin 1024) :
    ∀ n ≤ (k0_t1_loop v).trips, (accAt v5 v11 v25 v k0_pay45 x1 x6 x7 x8 x9 o n (ix2 t q) : EReal)
      = (o (ix2 t q) : EReal) + if 0 < g t ∧ place g t / 160 < n then gain g x1 x6 x7 x8 x9 t q else 0 := by
  intro n
  induction n with
  | zero => intro _; rw [if_neg (by omega), add_zero]; rfl
  | succ n ih =>
    intro h
    have hn : n < (k0_t1_loop v).trips := h
    have e : (accAt v5 v11 v25 v k0_pay45 x1 x6 x7 x8 x9 o (n + 1) (ix2 t q) : EReal)
        = (accAt v5 v11 v25 v k0_pay45 x1 x6 x7 x8 x9 o n (ix2 t q) : EReal) + addend v5 v11 v25 v k0_pay45 ⟨n, hn⟩ x1 x6 x7 x8 x9 (ix2 t q) := by
      rw [accAt, dif_pos hn]
      pointwise [k0_pay2, k0_pay22]
    rw [e, ih (le_of_lt hn), addend_token v5 v11 v25 v ⟨n, hn⟩ (by simp only []; omega) x1 x6 x7 x8 x9 g hg h11 h25, add_assoc]
    refine congrArg₂ (· + ·) rfl ?_
    by_cases c : 0 < g t
    · rcases lt_trichotomy (place g t / 160) n with h' | h' | h'
      · rw [if_pos ⟨c, h'⟩, if_neg (by simp only []; omega), if_pos ⟨c, by omega⟩, add_zero]
      · rw [if_neg (by omega), if_pos ⟨c, h'⟩, if_pos ⟨c, by omega⟩, zero_add]
      · rw [if_neg (by omega), if_neg (by simp only []; omega), if_neg (by omega), add_zero]
    · rw [if_neg (fun h => c h.1), if_neg (fun h => c h.1), if_neg (fun h => c h.1), add_zero]

end Cert.KernelIdeal.Moe

end
-- ==== Proof.Point.lean ====
/- A whole grid point in terms of tokens: from the gates of one expert and the ranks of the tile's tokens, the output
tile gains each routed token's expert output times its gate. -/
module

public import proofs.«01_k».proof.Proof.Blocks
public import Idealize.ShloMosaic.Lib.IdealHost

@[expose] public section

set_option maxRecDepth 16384

noncomputable section

namespace Cert.KernelIdeal.Moe

open Cert.KernelIdeal.Gen Cert.MoeMath
open Idealize.ShloMosaic Idealize.ShloMosaic.TcCoe Idealize.SL.Sem

/-- The word of minus one. -/
theorem neg_one_at : Ideal.ofBits .f32 0xBF800000#32 = ((-1 : ℝ) : EReal) := by
  simp [Ideal.ofBits, Ideal.ieee, -EReal.coe_mul, -EReal.coe_neg]; norm_num

/-- A product of two indicators is the indicator of both. -/
theorem ite_and (p q : Prop) [Decidable p] [Decidable q] :
    ((if p then (1 : EReal) else 0) * if q then (1 : EReal) else 0) = if p ∧ q then (1 : EReal) else 0 := by
  by_cases hp : p <;> by_cases hq : q <;> simp [hp, hq]

/-- The ranks' high part: each token's slot among the tokens of the tile the expert takes. -/
theorem hi_at (x2 : Vec Ideal S1024x128 .f32) (x4 : Vec Ideal S1024x1024 .bf16)
    (h4 : ∀ a b : Fin 1024, (x4 (ix2 a b) : EReal) = if b < a then 1 else 0) (t : Fin 1024) (e : Fin 128) :
    (hiOf (F := Ideal) x2 x4 (ix2 t e) : EReal) = slot (fun s => x2 (ix2 s e)) t := by
  pointwise [hiOf, k0_pay7, k0_pay6, k0_pay5]
  rw [neg_one_at]
  unfold slot place
  refine if_congr Iff.rfl ?_ rfl
  simp only [h4, ite_and]
  rw [sum_ones]

/-- The ranks' low part is zero: the ranks are exact in the high part. -/
theorem lo_at (x2 : Vec Ideal S1024x128 .f32) (x4 : Vec Ideal S1024x1024 .bf16)
    (h4 : ∀ a b : Fin 1024, (x4 (ix2 a b) : EReal) = if b < a then 1 else 0) (t : Fin 1024) (e : Fin 128) :
    (loOf (F := Ideal) x2 x4 (ix2 t e) : EReal) = 0 := by
  have h := hi_at x2 x4 h4 t e
  have e1 : (loOf (F := Ideal) x2 x4 (ix2 t e) : EReal) = (hiOf (F := Ideal) x2 x4 (ix2 t e) : EReal) - (hiOf (F := Ideal) x2 x4 (ix2 t e) : EReal) := by
    pointwise [loOf, hiOf, k0_pay39, k0_pay8, k0_pay7, k0_pay6]
  rw [e1, h]
  unfold slot
  split <;> rw [← EReal.coe_sub, sub_self] <;> rfl

/-- The ranks by expert: each token's place among the tokens of the tile the expert takes. -/
theorem rt_at (x3 : Vec Ideal S128x1024 .f32) (x5 : Vec Ideal S1024x1024 .bf16)
    (h5 : ∀ a b : Fin 1024, (x5 (ix2 a b) : EReal) = if a < b then 1 else 0) (e : Fin 128) (t : Fin 1024) :
    (rtOf (F := Ideal) x3 x5 (ix2 e t) : EReal) = ((place (fun s => x3 (ix2 e s)) t : ℝ) : EReal) := by
  pointwise [rtOf, k0_pay40, k0_pay4]
  simp only [h5, ite_and]
  rw [sum_ones]
  unfold place
  congr 3
  ext s
  simp only [Finset.mem_filter, Finset.mem_univ, true_and]
  exact and_comm

/-- The expert's number as a lane. -/
def lane (i : grid0.Coords) : Fin 128 := ⟨(i 1).val, by have h : (i 1).val < 32 := (i 1).isLt; omega⟩

/-- The expert's row of a table by expert. -/
theorem row_of (i : grid0.Coords) (X : Vec Ideal S128x1024 .f32) (t : Fin 1024) :
    (rowAt (F := Ideal) i X (ix2 0 t) : EReal) = X (ix2 (lane i) t) := by
  have h : (i 1).val < 32 := (i 1).isLt
  pointwise [rowAt]
  refine congrArg X ?_
  refine (ix2_inj ..).2 ⟨Fin.ext ?_, Fin.ext ?_⟩
  · show (BitVec.ofNat 32 (i 1).val).toNat = (i 1).val
    rw [BitVec.toNat_ofNat]; omega
  · show 0 + t.val = t.val
    omega

/-- The number of tokens the expert takes, as the loop's count. -/
theorem count_at (i : grid0.Coords) (x3 : Vec Ideal S128x1024 .f32) :
    countAt (F := Ideal) i x3 = BitVec.ofNat 32 (total fun s => x3 (ix2 (lane i) s)) := by
  have e : (k0_pay44 (F := Ideal) (rowAt i x3) : EReal) = ((total (fun s => x3 (ix2 (lane i) s)) : ℝ) : EReal) := by
    pointwise [k0_pay44, k0_pay41]
    simp only [row_of]
    rw [Fin.sum_univ_one, sum_ones]
    unfold total
    congr
  have ht := total_le fun s => x3 (ix2 (lane i) s)
  show Ideal.fptosi 32 (k0_pay44 (F := Ideal) (rowAt i x3) : EReal) = _
  rw [e, Ideal.fptosi, Ideal.toIntClamped_coe, if_pos (Nat.cast_nonneg _), Int.floor_natCast]
  rw [← BitVec.ofInt_natCast]
  congr 1
  rw [min_eq_right (by norm_num; omega), max_eq_right (by norm_num)]

/-- The slots repeated along the columns: every column is the expert's column of the ranks. -/
theorem cols_at (i : grid0.Coords) (hi lo : Vec Ideal S1024x128 .bf16) (hlo : ∀ t e, (lo (ix2 t e) : EReal) = 0) (t : Fin 1024) (r : Fin 160) :
    (k0_pay43 (F := Ideal) i hi lo (ix2 t r) : EReal) = hi (ix2 t (lane i)) := by
  have hl : ∀ x : Fin 128, (IntOp.cmpi CmpIPredicate.eq (BitVec.ofNat 32 x.val) (BitVec.ofNat 32 (i 1).val) = 1#1) ↔ x = lane i := by
    intro x
    have h : (i 1).val < 32 := (i 1).isLt
    have hx := x.isLt
    unfold lane
    rw [Fin.ext_iff]
    generalize (i 1).val = n at h
    word_cmp
  have key : ∀ X : Vec Ideal S1024x128 .bf16, (∑ x : Fin 128, Scalar.select (IntOp.cmpi CmpIPredicate.eq (BitVec.ofNat 32 x.val) (BitVec.ofNat 32 (i 1).val)) (X (ix2 t x) : EReal) 0) = X (ix2 t (lane i)) := by
    intro X
    rw [Finset.sum_eq_single (lane i)]
    · exact if_pos ((hl _).mpr rfl)
    · intro x _ hx
      exact if_neg fun h => hx ((hl x).mp h)
    · intro h; exact absurd (Finset.mem_univ _) h
  have e : (k0_pay43 (F := Ideal) i hi lo (ix2 t r) : EReal) = (hi (ix2 t (lane i)) : EReal) + (lo (ix2 t (lane i)) : EReal) := by
    pointwise [k0_pay43]
    by_cases h : r.val < 128
    · rw [dif_pos h]
      exact congrArg₂ (· + ·) (key hi) (key lo)
    · rw [dif_neg h]
      exact congrArg₂ (· + ·) (key hi) (key lo)
  rw [e, hlo, add_zero]

/-- The expert's row of the slots. -/
theorem slots_at (i : grid0.Coords) (x3 rt : Vec Ideal S128x1024 .f32)
    (hrt : ∀ t, (rt (ix2 (lane i) t) : EReal) = ((place (fun s => x3 (ix2 (lane i) s)) t : ℝ) : EReal)) (t : Fin 1024) :
    (k0_pay42 (F := Ideal) (rowAt i x3) (rowAt i rt) (ix2 0 t) : EReal) = slot (fun s => x3 (ix2 (lane i) s)) t := by
  pointwise [k0_pay42, k0_pay41]
  simp only [row_of]
  rw [neg_one_at, hrt]
  rfl

/-- A grid point adds to each token of the tile its gain from the point's expert when its gate is positive. -/
theorem point_at (i : grid0.Coords) (x3 : Vec Ideal S128x1024 .f32) (x1 : Vec Ideal S1024x1024 .bf16) (x6 : Vec Ideal S1x1024x2048 .bf16)
    (x7 : Vec Ideal S1x1x2048 .f32) (x8 : Vec Ideal S1x1024x1024 .bf16) (x9 : Vec Ideal S1x1x1024 .f32)
    (hi lo : Vec Ideal S1024x128 .bf16) (rt : Vec Ideal S128x1024 .f32) (o : Vec Ideal S1024x1024 .f32)
    (hhi : ∀ t, (hi (ix2 t (lane i)) : EReal) = slot (fun s => x3 (ix2 (lane i) s)) t) (hlo : ∀ t e, (lo (ix2 t e) : EReal) = 0)
    (hrt : ∀ t, (rt (ix2 (lane i) t) : EReal) = ((place (fun s => x3 (ix2 (lane i) s)) t : ℝ) : EReal)) (t q : Fin 1024) :
    (outAfter (F := Ideal) i x3 x1 x6 x7 x8 x9 hi lo rt o (ix2 t q) : EReal)
      = (o (ix2 t q) : EReal) + if 0 < (x3 (ix2 (lane i) t) : EReal) then gain (fun s => x3 (ix2 (lane i) s)) x1 x6 x7 x8 x9 t q else 0 := by
  have ht := total_le fun s => x3 (ix2 (lane i) s)
  have hT : (k0_t1_loop (countAt (F := Ideal) i x3)).trips = (total (fun s => x3 (ix2 (lane i) s)) + 159) / 160 := by
    rw [count_at]; exact t1_trips _ ht
  unfold outAfter
  rw [accAt_token _ _ _ _ x1 x6 x7 x8 x9 o (fun s => x3 (ix2 (lane i) s)) (by rw [hT]; omega)
    (fun s => by rw [show (k0_pay41 (F := Ideal) (rowAt i x3) (ix2 0 s) : EReal) = rowAt (F := Ideal) i x3 (ix2 0 s) by pointwise [k0_pay41]]; exact row_of i x3 s)
    (slots_at i x3 rt hrt) (fun s r => (cols_at i hi lo hlo s r).trans (hhi s)) t q _ le_rfl]
  refine congrArg₂ (· + ·) rfl (if_congr ⟨fun h => h.1, fun h => ⟨h, ?_⟩⟩ rfl rfl)
  have hp := place_lt (fun s => x3 (ix2 (lane i) s)) t h
  rw [hT]
  omega

end Cert.KernelIdeal.Moe

end
-- ==== Proof.Run.lean ====
/- The run of the mixture-of-experts pipeline: what the output tile and the ranks hold before each grid point, the body at
every point, the launch. -/
module

public import proofs.«01_k».proof.Proof.Whole
public import Idealize.ShloMosaic.Lib.Claim

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is carried from point to point: the output tile and the three rank tables. -/
structure St (F : FTy → Type) [FloatOps F] where
  /-- the output tile -/
  o : Vec F S1024x1024 .f32
  /-- the ranks' high part -/
  hi : Vec F S1024x128 .bf16
  /-- the ranks' low part -/
  lo : Vec F S1024x128 .bf16
  /-- the ranks by expert -/
  rt : Vec F S128x1024 .f32

/-- What a tile's first point starts from: the residual and the ranks of its gates. -/
def start (c : Dev nD) (t : Fin cfg0.N) : St F :=
  ⟨iblk m c 0 t, hiOf (iblk m c 2 t) (iblk m c 4 t), loOf (iblk m c 2 t) (iblk m c 4 t), rtOf (iblk m c 3 t) (iblk m c 5 t)⟩

/-- Adding a point's expert to the output tile. -/
def addExpert (c : Dev nD) (t : Fin cfg0.N) (s : St F) : St F :=
  ⟨outAfter (grid0.coords t) (iblk m c 3 t) (iblk m c 1 t) (iblk m c 6 t) (iblk m c 7 t) (iblk m c 8 t) (iblk m c 9 t) s.hi s.lo s.rt s.o, s.hi, s.lo, s.rt⟩

/-- What point `t` leaves, from what it finds. -/
def stepSt (c : Dev nD) (t : Fin cfg0.N) (s : St F) : St F :=
  addExpert m c t (if t.val % 32 = 0 then start m c t else s)

/-- What is carried before point `n`. -/
def stAt (c : Dev nD) : ℕ → St F
  | 0 => start m c ⟨0, by rw [show cfg0.N = 2048 from N_0]; decide⟩
  | n + 1 => if h : n < cfg0.N then stepSt m c ⟨n, h⟩ (stAt c n) else stAt c n

/-- What is carried after a point. -/
theorem stAt_succ (c : Dev nD) (t : Fin cfg0.N) : stAt m c (t.val + 1) = stepSt m c t (stAt m c t.val) := by
  show (if h : t.val < cfg0.N then _ else _) = _
  rw [dif_pos t.isLt]

/-- The first conditional's closed form: the point is a multiple of 32. -/
theorem isFirst_iff (t : Fin cfg0.N) : isFirst (grid0.coords t) ↔ t.val % 32 = 0 := by
  have e1 : (grid0.coords t 1).val = t.val / 1 % 32 := Pipeline.Grid.coords_val t 1 (by decide) rfl
  simp only [isFirst, e1]
  word_cmp

/-- The first scratch buffer, whole. -/
abbrev sc0 : Memref sig .tc .vmem S1024x128 .bf16 := Memref.whole cc0_scratch0
/-- The second scratch buffer, whole. -/
abbrev sc1 : Memref sig .tc .vmem S1024x128 .bf16 := Memref.whole cc0_scratch1
/-- The third scratch buffer, whole. -/
abbrev sc2 : Memref sig .tc .vmem S128x1024 .f32 := Memref.whole cc0_scratch2

/-- The region's own resources are the three scratch buffers at some contents and the generator register. -/
theorem region_eq (c : Dev nD) : (Pipeline.ΦA spec0 c : sProp 𝕄) =
    iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- What the core holds besides the staging buffers before point `n`: inside a tile the rank tables at their values. -/
def carried (c : Dev nD) (n : ℕ) : sProp 𝕄 :=
  if n % 32 = 0 then Pipeline.ΦA spec0 c
  else iprop(iprop(owns (c : Thread nD τ) sc0 fullShare (stAt m c n).hi ∗ owns (c : Thread nD τ) sc1 fullShare (stAt m c n).lo
    ∗ owns (c : Thread nD τ) sc2 fullShare (stAt m c n).rt) ∗ (∃ r, prngReg c r))

/-- Given the rank tables at their values, the core holds what the next point expects. -/
theorem carried_intro (c : Dev nD) (n : ℕ) :
    (iprop(iprop(owns (c : Thread nD τ) sc0 fullShare (stAt m c n).hi ∗ owns (c : Thread nD τ) sc1 fullShare (stAt m c n).lo
      ∗ owns (c : Thread nD τ) sc2 fullShare (stAt m c n).rt) ∗ (∃ r, prngReg c r)) : sProp 𝕄) ⊢ carried m c n := by
  unfold carried
  split
  · rw [region_eq]
    iintro ⟨⟨H0, H1, H2⟩, Hg⟩
    isplitl [H0 H1 H2]
    · isplitl [H0]; · iexists _; iexact H0
      isplitl [H1]; · iexists _; iexact H1
      iexists _; iexact H2
    iexact Hg
  · exact .rfl

/-- The pipeline's proof data: the arrays as the region finds them, each operand's block left in place, the output tile
as the recursion says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (stAt m c (t.val + 1)).o
  Φ t := carried m c t.val
  q _ := fullShare
  owed _ := 0

/-- The proof data's arrays are what the region finds. -/
theorem A_eq (c : Dev nD) (w : Fin cfg0.W) : (dats m 0 c).A w = V m c (Pipeline.arrRef spec0 w) := by
  dsimp only [dats]
/-- Operand 0's block is left in place. -/
theorem after_0 (c : Dev nD) (t : Fin cfg0.N) : (dats m 0 c).after 0 t = iblk m c 0 t := by dsimp only [dats]
/-- Operand 1's block is left in place. -/
theorem after_1 (c : Dev nD) (t : Fin cfg0.N) : (dats m 0 c).after 1 t = iblk m c 1 t := by dsimp only [dats]
/-- Operand 2's block is left in place. -/
theorem after_2 (c : Dev nD) (t : Fin cfg0.N) : (dats m 0 c).after 2 t = iblk m c 2 t := by dsimp only [dats]
/-- Operand 3's block is left in place. -/
theorem after_3 (c : Dev nD) (t : Fin cfg0.N) : (dats m 0 c).after 3 t = iblk m c 3 t := by dsimp only [dats]
/-- Operand 4's block is left in place. -/
theorem after_4 (c : Dev nD) (t : Fin cfg0.N) : (dats m 0 c).after 4 t = iblk m c 4 t := by dsimp only [dats]
/-- Operand 5's block is left in place. -/
theorem after_5 (c : Dev nD) (t : Fin cfg0.N) : (dats m 0 c).after 5 t = iblk m c 5 t := by dsimp only [dats]
/-- Operand 6's block is left in place. -/
theorem after_6 (c : Dev nD) (t : Fin cfg0.N) : (dats m 0 c).after 6 t = iblk m c 6 t := by dsimp only [dats]
/-- Operand 7's block is left in place. -/
theorem after_7 (c : Dev nD) (t : Fin cfg0.N) : (dats m 0 c).after 7 t = iblk m c 7 t := by dsimp only [dats]
/-- Operand 8's block is left in place. -/
theorem after_8 (c : Dev nD) (t : Fin cfg0.N) : (dats m 0 c).after 8 t = iblk m c 8 t := by dsimp only [dats]
/-- Operand 9's block is left in place. -/
theorem after_9 (c : Dev nD) (t : Fin cfg0.N) : (dats m 0 c).after 9 t = iblk m c 9 t := by dsimp only [dats]
/-- The output tile after a point. -/
theorem after_10 (c : Dev nD) (t : Fin cfg0.N) : (dats m 0 c).after 10 t = (stAt m c (t.val + 1)).o := by dsimp only [dats]
/-- Operand 0's staging buffer holds its block. -/
theorem before_0 (c : Dev nD) (t : Fin cfg0.N) (d) : (dats m 0 c).before 0 t d = iblk m c 0 t :=
  before0_0_of m (dats m 0 c) (A_eq m c 0) (after_0 m c) t d
/-- Operand 1's staging buffer holds its block. -/
theorem before_1 (c : Dev nD) (t : Fin cfg0.N) (d) : (dats m 0 c).before 1 t d = iblk m c 1 t :=
  before0_1_of m (dats m 0 c) (A_eq m c 1) (after_1 m c) t d
/-- Operand 2's staging buffer holds its block. -/
theorem before_2 (c : Dev nD) (t : Fin cfg0.N) (d) : (dats m 0 c).before 2 t d = iblk m c 2 t :=
  before0_2_of m (dats m 0 c) (A_eq m c 2) (after_2 m c) t d
/-- Operand 3's staging buffer holds its block. -/
theorem before_3 (c : Dev nD) (t : Fin cfg0.N) (d) : (dats m 0 c).before 3 t d = iblk m c 3 t :=
  before0_3_of m (dats m 0 c) (A_eq m c 3) (after_3 m c) t d
/-- Operand 4's staging buffer holds its block. -/
theorem before_4 (c : Dev nD) (t : Fin cfg0.N) (d) : (dats m 0 c).before 4 t d = iblk m c 4 t :=
  before0_4_of m (dats m 0 c) (A_eq m c 4) (after_4 m c) t d
/-- Operand 5's staging buffer holds its block. -/
theorem before_5 (c : Dev nD) (t : Fin cfg0.N) (d) : (dats m 0 c).before 5 t d = iblk m c 5 t :=
  before0_5_of m (dats m 0 c) (A_eq m c 5) (after_5 m c) t d
/-- Operand 6's staging buffer holds its block. -/
theorem before_6 (c : Dev nD) (t : Fin cfg0.N) (d) : (dats m 0 c).before 6 t d = iblk m c 6 t :=
  before0_6_of m (dats m 0 c) (A_eq m c 6) (after_6 m c) t d
/-- Operand 7's staging buffer holds its block. -/
theorem before_7 (c : Dev nD) (t : Fin cfg0.N) (d) : (dats m 0 c).before 7 t d = iblk m c 7 t :=
  before0_7_of m (dats m 0 c) (A_eq m c 7) (after_7 m c) t d
/-- Operand 8's staging buffer holds its block. -/
theorem before_8 (c : Dev nD) (t : Fin cfg0.N) (d) : (dats m 0 c).before 8 t d = iblk m c 8 t :=
  before0_8_of m (dats m 0 c) (A_eq m c 8) (after_8 m c) t d
/-- Operand 9's staging buffer holds its block. -/
theorem before_9 (c : Dev nD) (t : Fin cfg0.N) (d) : (dats m 0 c).before 9 t d = iblk m c 9 t :=
  before0_9_of m (dats m 0 c) (A_eq m c 9) (after_9 m c) t d

/-- Inside a tile the output's staging buffer holds what the point before left. -/
theorem before_10 (c : Dev nD) (t : Fin cfg0.N) (ht : ¬ t.val % 32 = 0) (d) : (dats m 0 c).before 10 t d = (stAt m c t.val).o := by
  have h0 : t.val ≠ 0 := fun h => ht (by rw [h])
  have hf : (cfg0.win 10).flush ⟨t.val - 1, Nat.lt_of_le_of_lt (Nat.sub_le _ _) t.isLt⟩ = false := by
    rw [Bool.eq_false_iff]; intro h
    have h' := (flush0_10 _).mp h
    have h'' : (t.val - 1) % 32 = 31 := h'
    omega
  rw [Dat.before_out_kept (dats m 0 c) 10 rfl t h0 hf (fun _ => rfl) (fun _ _ => rfl) d, after_10]
  show (stAt m c (t.val - 1 + 1)).o = _
  rw [Nat.sub_add_cancel (Nat.pos_of_ne_zero h0)]

/-- Window 0's staging buffer at point `t`. -/
abbrev stg0 (t : Fin cfg0.N) := win0_0.stage (cfg0.slots t 0)
/-- Window 1's staging buffer at point `t`. -/
abbrev stg1 (t : Fin cfg0.N) := win0_1.stage (cfg0.slots t 1)
/-- Window 2's staging buffer at point `t`. -/
abbrev stg2 (t : Fin cfg0.N) := win0_2.stage (cfg0.slots t 2)
/-- Window 3's staging buffer at point `t`. -/
abbrev stg3 (t : Fin cfg0.N) := win0_3.stage (cfg0.slots t 3)
/-- Window 4's staging buffer at point `t`. -/
abbrev stg4 (t : Fin cfg0.N) := win0_4.stage (cfg0.slots t 4)
/-- Window 5's staging buffer at point `t`. -/
abbrev stg5 (t : Fin cfg0.N) := win0_5.stage (cfg0.slots t 5)
/-- Window 6's staging buffer at point `t`. -/
abbrev stg6 (t : Fin cfg0.N) := win0_6.stage (cfg0.slots t 6)
/-- Window 7's staging buffer at point `t`. -/
abbrev stg7 (t : Fin cfg0.N) := win0_7.stage (cfg0.slots t 7)
/-- Window 8's staging buffer at point `t`. -/
abbrev stg8 (t : Fin cfg0.N) := win0_8.stage (cfg0.slots t 8)
/-- Window 9's staging buffer at point `t`. -/
abbrev stg9 (t : Fin cfg0.N) := win0_9.stage (cfg0.slots t 9)
/-- Window 10's staging buffer at point `t`. -/
abbrev stg10 (t : Fin cfg0.N) := win0_10.stage (cfg0.slots t 10)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t))

set_option maxHeartbeats 2400000 in
/-- The body at every point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, after_0, after_1, after_2, after_3, after_4, after_5, after_6, after_7, after_8, after_9, after_10]
  rw [show (dats m 0 c).Φ t.castSucc = carried m c t.val from rfl, show (dats m 0 c).Φ t.succ = carried m c (t.val + 1) from rfl]
  have hs := stAt_succ m c t
  unfold stepSt at hs
  by_cases h0 : t.val % 32 = 0
  · rw [if_pos h0] at hs
    rw [show carried m c t.val = _ from if_pos h0, region_eq]
    have hc := carried_intro m c (t.val + 1)
    rw [hs] at hc ⊢
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (wp_wand_r frame (wpE (defs₀ (F := F)) Variants.none (c : Thread nD τ) none) Set.univ)
    isplitl [H0 H1 H2 H3 H4 H5 H6 H7 H8 H9 H10 HS0 HS1 HS2]
    · iapply (body_first c (grid0.coords t) _ _ _ _ _ _ _ _ _ _ _ _ _ _ _ _ _ _ _ _ _ _ _ _ _ _ _ _  ((isFirst_iff t).mpr h0) (iblk m c 0 t) (iblk m c 1 t) (iblk m c 2 t) (iblk m c 3 t) (iblk m c 4 t) (iblk m c 5 t) (iblk m c 6 t) (iblk m c 7 t) (iblk m c 8 t) (iblk m c 9 t) Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      iexact HS2
    iintro %_ ⟨H0, H1, H2, H3, H4, H5, H6, H7, H8, H9, H10, HS0, HS1, HS2⟩
    isplitl [HS0 HS1 HS2 Hg]
    · iapply hc
      isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [if_neg h0] at hs
    rw [show carried m c t.val = _ from if_neg h0]
    simp only [before_10 m c t h0]
    have hc := carried_intro m c (t.val + 1)
    rw [hs] at hc ⊢
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (wp_wand_r frame (wpE (defs₀ (F := F)) Variants.none (c : Thread nD τ) none) Set.univ)
    isplitl [H0 H1 H2 H3 H4 H5 H6 H7 H8 H9 H10 HS0 HS1 HS2]
    · iapply (body_next c (grid0.coords t) _ _ _ _ _ _ _ _ _ _ _ _ _ _ _ _ _ _ _ _ _ _ _ _ _ _ _ _  (fun h => h0 ((isFirst_iff t).mp h)) (iblk m c 0 t) (iblk m c 1 t) (iblk m c 2 t) (iblk m c 3 t) (iblk m c 4 t) (iblk m c 5 t) (iblk m c 6 t) (iblk m c 7 t) (iblk m c 8 t) (iblk m c 9 t) (stAt m c t.val).hi (stAt m c t.val).lo (stAt m c t.val).rt (stAt m c t.val).o Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iexact HS2
    iintro %_ ⟨H0, H1, H2, H3, H4, H5, H6, H7, H8, H9, H10, HS0, HS1, HS2⟩
    isplitl [HS0 HS1 HS2 Hg]
    · iapply hc
      isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body the pipeline calls at a point. -/
theorem body_row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Before the first point the core holds the region's own resources. -/
theorem carried_start (c : Dev nD) : carried m c 0 = Pipeline.ΦA spec0 c := if_pos rfl

/-- After the last point the core holds the region's own resources. -/
theorem carried_end (c : Dev nD) : carried m c cfg0.N = Pipeline.ΦA spec0 c :=
  if_pos (by rw [show cfg0.N = 2048 from N_0])

set_option backward.isDefEq.respectTransparency.types false in
/-- The launch, with every semaphore back at zero. -/
theorem run_full : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => .of_eq (carried_start m c).symm) (hout := fun c => .of_eq (carried_end m c))

/-- The launch: every execution ends, the output array holding the tiles written back. -/
theorem run_main : θ_run defs (onTc (τ := τ) (main (F := F))) (s₀ m ρ) (Pipeline.FramePost cfgs (dats m) 0 (V m)) :=
  (θ_run defs _ _).mono (fun _ h => h.1) (run_full m ρ)

/-- The argument arrays end as they were launched and every semaphore is back at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_full m ρ))

end Cert.KernelIdeal.Moe

end
-- ==== Proof.Operands.lean ====
/- The operand blocks each grid point reads, in terms of the arguments. -/
module

public import proofs.«01_k».proof.Proof.Point
public import proofs.«01_k».proof.Proof.Run
public import Idealize.ShloMosaic.Lib.Pipeline.ValueKit

@[expose] public section

set_option maxRecDepth 16384

noncomputable section

namespace Cert.KernelIdeal.Moe

open Cert.KernelIdeal.Gen
open Idealize.ShloMosaic.Tactic Cert.MoeMath
open Idealize.ShloMosaic Idealize.ShloMosaic.TcCoe Idealize.SL.Sem

variable (m : (ℓ : Loc nD τ sig) → Buf (Elt Ideal) ℓ)

/-- The table of columns: the even columns of a 256-wide stripe first, then the odd ones. -/
theorem table_at : ∀ k : Fin 2048, lit0 k = BitVec.ofNat 32 (k.val / 256 * 256 + k.val % 128 * 2 + k.val / 128 % 2) := by decide +kernel

/-- The column gather reads the operand's row at the column the table names. -/
theorem gather_col (x : Vec Ideal S32x2048 .f32) (idx : IVec S2048x1 32) (e : Fin 32) (y b : Fin 2048)
    (hb : idx (ix2 y (0 : Fin 1)) = BitVec.ofNat 32 b.val) :
    Host.gather gather_S32x2048_S2048x1_S32x2048_0_1_n_n_1_1_321 x idx (ix2 e y) = x (ix2 e b) := by
  unfold Host.gather
  refine congrArg x (funext fun a => Fin.ext ?_)
  match a with
  | ⟨0, _⟩ =>
    show gather_S32x2048_S2048x1_S32x2048_0_1_n_n_1_1_321.start (ix2 e y) idx 0 + gather_S32x2048_S2048x1_S32x2048_0_1_n_n_1_1_321.batchCoord (ix2 e y) 0 + gather_S32x2048_S2048x1_S32x2048_0_1_n_n_1_1_321.offCoord (ix2 e y) 0 = e.val
    rw [GatherDims.batchCoord_eq_zero _ _ _ List.not_mem_nil]
    unfold GatherDims.start
    rw [dif_neg (show ¬ (0 : Fin 2) ∈ gather_S32x2048_S2048x1_S32x2048_0_1_n_n_1_1_321.startIndexMap by decide)]
    unfold GatherDims.offCoord
    rw [dif_pos (show (0 : Fin 2) ∈ gather_S32x2048_S2048x1_S32x2048_0_1_n_n_1_1_321.sKept by decide)]
    simp only [Nat.zero_add]
    rfl
  | ⟨1, _⟩ =>
    show gather_S32x2048_S2048x1_S32x2048_0_1_n_n_1_1_321.start (ix2 e y) idx 1 + gather_S32x2048_S2048x1_S32x2048_0_1_n_n_1_1_321.batchCoord (ix2 e y) 1 + gather_S32x2048_S2048x1_S32x2048_0_1_n_n_1_1_321.offCoord (ix2 e y) 1 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x2048_S2048x1_S32x2048_0_1_n_n_1_1_321.startIndexMap from List.mem_singleton.mpr rfl)]
    have hsi : gather_S32x2048_S2048x1_S32x2048_0_1_n_n_1_1_321.siIdx (ix2 e y) ⟨List.idxOf (1 : Fin 2) gather_S32x2048_S2048x1_S32x2048_0_1_n_n_1_1_321.startIndexMap,
      List.idxOf_lt_length_iff.2 (List.mem_singleton.mpr rfl)⟩ = ix2 y (0 : Fin 1) := by
      funext b; refine Fin.ext ?_
      match b with
      | ⟨0, _⟩ => rfl
      | ⟨1, _⟩ => rfl
    have := b.isLt
    rw [hsi, hb, toInt_small _ (by omega)]
    show min ((b.val : Int)).toNat 2047 = b.val
    omega

/-- The transposed gates the pipeline finds. -/
theorem gates_T (c : Dev nD) (e : Fin 128) (n : Fin 65536) :
    (V m c main_v0 (ix2 e n) : EReal) = m ((c : Thread nD τ).loc main_arg2) (ix2 n e) := by
  simp only [V, hostOps0, hostOps0_1, hostOps0_2, hostOps0_3, hostOps0_4, List.flatten_cons, List.flatten_nil, List.append_nil, List.cons_append, List.nil_append]
  entry_read
  pointwise

/-- Where a column of the regrouped matrix comes from. -/
def origCol (k : Fin 2048) : Fin 2048 := ⟨k.val / 256 * 256 + k.val % 128 * 2 + k.val / 128 % 2, by omega⟩

/-- The gate's columns are the even ones. -/
theorem origCol_gate (f : Fin 1024) : origCol (gateCol f) = ⟨2 * f.val, by omega⟩ := by
  apply Fin.ext; simp only [origCol, gateCol]; omega

/-- The linear half's columns are the odd ones. -/
theorem origCol_lin (f : Fin 1024) : origCol (linCol f) = ⟨2 * f.val + 1, by omega⟩ := by
  apply Fin.ext; simp only [origCol, linCol]; omega

/-- The regrouped matrix the pipeline finds. -/
theorem wgu_at (c : Dev nD) (e : Fin 32) (d : Fin 1024) (k : Fin 2048) :
    (V m c main_v4 (ix3 e d k) : EReal) = m ((c : Thread nD τ).loc main_arg3) (ix3 e d (origCol k)) := by
  simp only [V, hostOps0, hostOps0_1, hostOps0_2, hostOps0_3, hostOps0_4, List.flatten_cons, List.flatten_nil, List.append_nil, List.cons_append, List.nil_append]
  entry_read
  pointwise
  rfl

/-- The columns the pipeline's gather reads. -/
theorem bias_cols_at (c : Dev nD) (k : Fin 2048) :
    (V m c main_v8 (ix2 k (0 : Fin 1)) : BitVec 32) = BitVec.ofNat 32 (origCol k).val := by
  simp only [V, hostOps0, hostOps0_1, hostOps0_2, hostOps0_3, hostOps0_4, List.flatten_cons, List.flatten_nil, List.append_nil, List.cons_append, List.nil_append]
  entry_read
  pointwise
  rw [show S2048.rowMajor (ix1 k) = k from Fin.ext (by rw [Shape.rowMajor_val_one]; rfl)]
  exact table_at k

/-- The regrouped bias is the gather of the bias at those columns. -/
theorem bgu_eq (c : Dev nD) : (V m c main_v10 : Vec Ideal S32x1x2048 .f32) = shapeCast S32x1x2048 (Host.gather gather_S32x2048_S2048x1_S32x2048_0_1_n_n_1_1_321
      (m ((c : Thread nD τ).loc main_arg4) : Vec Ideal S32x2048 .f32) (V m c main_v8 : IVec S2048x1 32)) shapeCasts_S32x2048_S32x1x2048 := by
  simp only [V, hostOps0, hostOps0_1, hostOps0_2, hostOps0_3, hostOps0_4, List.flatten_cons, List.flatten_nil, List.append_nil, List.cons_append, List.nil_append]
  entry_read
  generalize (fun i => lit0 (S2048.rowMajor i)) = L
  rfl

/-- The regrouped bias the pipeline finds. -/
theorem bgu_at (c : Dev nD) (e : Fin 32) (k : Fin 2048) :
    (V m c main_v10 (ix3 e (0 : Fin 1) k) : EReal) = m ((c : Thread nD τ).loc main_arg4) (ix2 e (origCol k)) := by
  have h := bias_cols_at m c k
  rw [bgu_eq m c]
  generalize (V m c main_v8 : IVec S2048x1 32) = idx at h
  refine Eq.trans ?_ (gather_col (m ((c : Thread nD τ).loc main_arg4)) idx e k (origCol k) h)
  pointwise

/-- The second matrix the pipeline finds. -/
theorem wdn_at (c : Dev nD) (e : Fin 32) (f q : Fin 1024) :
    (V m c main_v11 (ix3 e f q) : EReal) = m ((c : Thread nD τ).loc main_arg5) (ix3 e f q) := by
  simp only [V, hostOps0, hostOps0_1, hostOps0_2, hostOps0_3, hostOps0_4, List.flatten_cons, List.flatten_nil, List.append_nil, List.cons_append, List.nil_append]
  entry_read
  pointwise

/-- The second bias the pipeline finds. -/
theorem bdn_at (c : Dev nD) (e : Fin 32) (q : Fin 1024) :
    (V m c main_v12 (ix3 e (0 : Fin 1) q) : EReal) = m ((c : Thread nD τ).loc main_arg6) (ix2 e q) := by
  simp only [V, hostOps0, hostOps0_1, hostOps0_2, hostOps0_3, hostOps0_4, List.flatten_cons, List.flatten_nil, List.append_nil, List.cons_append, List.nil_append]
  entry_read
  pointwise

/-- A comparison of two small numbers, as a number. -/
theorem less_at (a b : Fin 1024) : (Scalar.select (IntOp.cmpi CmpIPredicate.slt (BitVec.ofNat 32 a.val) (BitVec.ofNat 32 b.val)) (1 : EReal) 0) = if a < b then (1 : EReal) else 0 := by
  have ha := a.isLt
  have hb := b.isLt
  simp only [Scalar.select, IntOp.cmpi, BitVec.slt, toInt_small a.val (by omega), toInt_small b.val (by omega)]
  by_cases h : a < b
  · have h' : a.val < b.val := h
    simp [h, h']
  · have h' : ¬ a.val < b.val := h
    simp [h, h']

/-- The table of earlier tokens the pipeline finds. -/
theorem lower_at (c : Dev nD) (a b : Fin 1024) :
    (V m c main_v20 (ix2 a b) : EReal) = (if b < a then (1 : EReal) else 0) := by
  simp only [V, hostOps0, hostOps0_1, hostOps0_2, hostOps0_3, hostOps0_4, List.flatten_cons, List.flatten_nil, List.append_nil, List.cons_append, List.nil_append]
  entry_read
  show (truncf (F := Ideal) .bf16 (select (cmpi .slt (iotaInDim S1024x1024 32 1) (iotaInDim S1024x1024 32 0))
    (broadcastInDim S1024x1024 ![] bcast_S_S1024x1024 (constant (F := Ideal) S_ .f32 0x3F800000#32 : Vec Ideal S_ .f32))
    (broadcastInDim S1024x1024 ![] bcast_S_S1024x1024 (constant (F := Ideal) S_ .f32 0x00000000#32 : Vec Ideal S_ .f32)) : Vec Ideal S1024x1024 .f32) bitsLt_bf16_f32 (ix2 a b) : EReal) = _
  pointwise
  exact less_at b a

/-- The same table, transposed. -/
theorem upper_at (c : Dev nD) (a b : Fin 1024) :
    (V m c main_v22 (ix2 a b) : EReal) = (if a < b then (1 : EReal) else 0) := by
  simp only [V, hostOps0, hostOps0_1, hostOps0_2, hostOps0_3, hostOps0_4, List.flatten_cons, List.flatten_nil, List.append_nil, List.cons_append, List.nil_append]
  entry_read
  show (truncf (F := Ideal) .bf16 (select (cmpi .slt (iotaInDim S1024x1024 32 0) (iotaInDim S1024x1024 32 1))
    (broadcastInDim S1024x1024 ![] bcast_S_S1024x1024 (constant (F := Ideal) S_ .f32 0x3F800000#32 : Vec Ideal S_ .f32))
    (broadcastInDim S1024x1024 ![] bcast_S_S1024x1024 (constant (F := Ideal) S_ .f32 0x00000000#32 : Vec Ideal S_ .f32)) : Vec Ideal S1024x1024 .f32) bitsLt_bf16_f32 (ix2 a b) : EReal) = _
  pointwise
  exact less_at a b

/-- The blocks each window reads at each point. -/
theorem idx : ∀ t : Fin cfg0.N, win0_0.index t = ![t.val / 32, 0] ∧ win0_1.index t = ![t.val / 32, 0] ∧ win0_2.index t = ![t.val / 32, 0]
    ∧ win0_3.index t = ![0, t.val / 32] ∧ win0_4.index t = ![0, 0] ∧ win0_5.index t = ![0, 0]
    ∧ win0_6.index t = ![t.val % 32, 0, 0] ∧ win0_7.index t = ![t.val % 32, 0, 0] ∧ win0_8.index t = ![t.val % 32, 0, 0]
    ∧ win0_9.index t = ![t.val % 32, 0, 0] ∧ win0_10.index t = ![t.val / 32, 0] ∧ t.val < 2048 :=
  (by decide +kernel : ∀ t : Fin grid0.N, _)

/-- A point's number is below 2048. -/
theorem pt_lt (t : Fin cfg0.N) : t.val < 2048 := (idx t).2.2.2.2.2.2.2.2.2.2.2

/-- The token of row `a` of a point's tile. -/
def tok (t : Fin cfg0.N) (a : Fin 1024) : Fin 65536 := ⟨t.val / 32 * 1024 + a.val, by have := pt_lt t; omega⟩

/-- The expert of a point. -/
def exp (t : Fin cfg0.N) : Fin 32 := ⟨t.val % 32, by omega⟩

/-- The residual's tile. -/
theorem blk0 (c : Dev nD) (t : Fin cfg0.N) (a q : Fin 1024) :
    (iblk m c 0 t (ix2 a q) : EReal) = m ((c : Thread nD τ).loc main_arg0) (ix2 (tok t a) q) := by
  blk_ext [iblk, V, idx t, tok]

/-- The activations' tile. -/
theorem blk1 (c : Dev nD) (t : Fin cfg0.N) (a q : Fin 1024) :
    (iblk m c 1 t (ix2 a q) : EReal) = m ((c : Thread nD τ).loc main_arg1) (ix2 (tok t a) q) := by
  blk_ext [iblk, V, idx t, tok]

/-- The gates' tile. -/
theorem blk2 (c : Dev nD) (t : Fin cfg0.N) (a : Fin 1024) (e : Fin 128) :
    (iblk m c 2 t (ix2 a e) : EReal) = m ((c : Thread nD τ).loc main_arg2) (ix2 (tok t a) e) := by
  blk_ext [iblk, V, idx t, tok]

/-- The transposed gates' tile. -/
theorem blk3 (c : Dev nD) (t : Fin cfg0.N) (e : Fin 128) (a : Fin 1024) :
    (iblk m c 3 t (ix2 e a) : EReal) = m ((c : Thread nD τ).loc main_arg2) (ix2 (tok t a) e) := by
  refine Eq.trans ?_ (gates_T m c e (tok t a))
  blk_ext [iblk, idx t, tok]

/-- The table of earlier tokens. -/
theorem blk4 (c : Dev nD) (t : Fin cfg0.N) (a b : Fin 1024) :
    (iblk m c 4 t (ix2 a b) : EReal) = if b < a then (1 : EReal) else 0 := by
  refine Eq.trans ?_ (lower_at m c a b)
  blk_ext [iblk, idx t]

/-- The table of later tokens. -/
theorem blk5 (c : Dev nD) (t : Fin cfg0.N) (a b : Fin 1024) :
    (iblk m c 5 t (ix2 a b) : EReal) = if a < b then (1 : EReal) else 0 := by
  refine Eq.trans ?_ (upper_at m c a b)
  blk_ext [iblk, idx t]

/-- The expert's first matrix. -/
theorem blk6 (c : Dev nD) (t : Fin cfg0.N) (d : Fin 1024) (k : Fin 2048) :
    (iblk m c 6 t (ix3 (0 : Fin 1) d k) : EReal) = m ((c : Thread nD τ).loc main_arg3) (ix3 (exp t) d (origCol k)) := by
  refine Eq.trans ?_ (wgu_at m c (exp t) d k)
  blk_ext [iblk, idx t, exp]

/-- The expert's first bias. -/
theorem blk7 (c : Dev nD) (t : Fin cfg0.N) (k : Fin 2048) :
    (iblk m c 7 t (ix3 (0 : Fin 1) (0 : Fin 1) k) : EReal) = m ((c : Thread nD τ).loc main_arg4) (ix2 (exp t) (origCol k)) := by
  refine Eq.trans ?_ (bgu_at m c (exp t) k)
  blk_ext [iblk, idx t, exp]

/-- The expert's second matrix. -/
theorem blk8 (c : Dev nD) (t : Fin cfg0.N) (f q : Fin 1024) :
    (iblk m c 8 t (ix3 (0 : Fin 1) f q) : EReal) = m ((c : Thread nD τ).loc main_arg5) (ix3 (exp t) f q) := by
  refine Eq.trans ?_ (wdn_at m c (exp t) f q)
  blk_ext [iblk, idx t, exp]

/-- The expert's second bias. -/
theorem blk9 (c : Dev nD) (t : Fin cfg0.N) (q : Fin 1024) :
    (iblk m c 9 t (ix3 (0 : Fin 1) (0 : Fin 1) q) : EReal) = m ((c : Thread nD τ).loc main_arg6) (ix2 (exp t) q) := by
  refine Eq.trans ?_ (bdn_at m c (exp t) q)
  blk_ext [iblk, idx t, exp]

end Cert.KernelIdeal.Moe

end
-- ==== Proof.Fold.lean ====
/- The tile after each expert: the residual and the shares of the experts seen. -/
module

public import proofs.«01_k».proof.Proof.Operands

@[expose] public section

set_option maxRecDepth 16384

noncomputable section

namespace Cert.KernelIdeal.Moe

open Cert.KernelIdeal.Gen
open Idealize.ShloMosaic.Tactic Cert.MoeMath
open Idealize.ShloMosaic Idealize.ShloMosaic.TcCoe Idealize.SL.Sem

/-- The share of expert `e` (counted round) in token `n`'s column `q`: its gate times its output, when the gate is positive. -/
def share (x : Vec Ideal S65536x1024 .bf16) (g : Vec Ideal S65536x128 .f32) (w1 : Vec Ideal S32x1024x2048 .f32) (b1 : Vec Ideal S32x2048 .f32)
    (w2 : Vec Ideal S32x1024x1024 .f32) (b2 : Vec Ideal S32x1024 .f32) (n : Fin 65536) (q : Fin 1024) (e : Fin 32) : EReal :=
  if 0 < (g (ix2 n (⟨e.val, by omega⟩ : Fin 128)) : EReal) then
    expertOut (fun d => x (ix2 n d)) (fun d f => w1 (ix3 e d (⟨2 * f.val, by omega⟩ : Fin 2048))) (fun d f => w1 (ix3 e d (⟨2 * f.val + 1, by omega⟩ : Fin 2048)))
      (fun f => b1 (ix2 e (⟨2 * f.val, by omega⟩ : Fin 2048))) (fun f => b1 (ix2 e (⟨2 * f.val + 1, by omega⟩ : Fin 2048)))
      (fun f => w2 (ix3 e f q)) (b2 (ix2 e q)) * g (ix2 n (⟨e.val, by omega⟩ : Fin 128))
  else 0

variable (m : (ℓ : Loc nD τ sig) → Buf (Elt Ideal) ℓ)

/-- The share of the expert counted `k`, from the launch contents. -/
def shareAt (c : Dev nD) (n : Fin 65536) (q : Fin 1024) (k : ℕ) : EReal :=
  share (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) n q ⟨k % 32, by omega⟩

/-- A token's gate for a lane, from the launch contents. -/
def gateAt (c : Dev nD) (n : Fin 65536) (e : Fin 128) : EReal := m ((c : Thread nD τ).loc main_arg2) (ix2 n e)

/-- A token's residual, from the launch contents. -/
def resAt (c : Dev nD) (n : Fin 65536) (q : Fin 1024) : EReal := m ((c : Thread nD τ).loc main_arg0) (ix2 n q)

/-- What a tile holds after `k` experts: the ranks of its gates, the residual and `k` shares. -/
structure Holds (c : Dev nD) (t : Fin cfg0.N) (k : ℕ) (s : St Ideal) : Prop where
  /-- the high part is the slot -/
  hi : ∀ (a : Fin 1024) (e : Fin 128), (s.hi (ix2 a e) : EReal) = slot (fun s => gateAt m c (tok t s) e) a
  /-- the low part is nothing -/
  lo : ∀ (a : Fin 1024) (e : Fin 128), (s.lo (ix2 a e) : EReal) = 0
  /-- the table by expert is the place -/
  rt : ∀ (e : Fin 128) (a : Fin 1024), (s.rt (ix2 e a) : EReal) = ((place (fun s => gateAt m c (tok t s) e) a : ℝ) : EReal)
  /-- the tile -/
  o : ∀ a q : Fin 1024, (s.o (ix2 a q) : EReal) = resAt m c (tok t a) q + ∑ e ∈ Finset.range k, shareAt m c (tok t a) q e

/-- A tile's start holds no share. -/
theorem holds_start (c : Dev nD) (t : Fin cfg0.N) : Holds m c t 0 (start m c t) where
  hi a e := (hi_at (iblk m c 2 t) (iblk m c 4 t) (blk4 m c t) a e).trans (congrArg (fun g => slot g a) (funext fun s => blk2 m c t s e))
  lo a e := lo_at (iblk m c 2 t) (iblk m c 4 t) (blk4 m c t) a e
  rt e a := (rt_at (iblk m c 3 t) (iblk m c 5 t) (blk5 m c t) e a).trans (congrArg (fun g => ((place g a : ℝ) : EReal)) (funext fun s => blk3 m c t e s))
  o a q := (blk0 m c t a q).trans (by rw [Finset.range_zero, Finset.sum_empty, add_zero]; rfl)

/-- The second coordinate of a point is its expert. -/
theorem coord_one : ∀ t : Fin cfg0.N, (grid0.coords t 1).val = t.val % 32 := (by decide +kernel : ∀ t : Fin grid0.N, _)

/-- The lane of a point is its expert. -/
theorem lane_eq (t : Fin cfg0.N) : lane (grid0.coords t) = ⟨(exp t).val, by have := (exp t).isLt; omega⟩ := Fin.ext (coord_one t)

/-- What a point's expert adds to a row, from the launch contents. -/
theorem gain_eq (c : Dev nD) (t : Fin cfg0.N) (a q : Fin 1024) (x3 : Vec Ideal S128x1024 .f32)
    (h3 : ∀ (e : Fin 128) (a : Fin 1024), (x3 (ix2 e a) : EReal) = gateAt m c (tok t a) e) :
    (if 0 < (x3 (ix2 (lane (grid0.coords t)) a) : EReal) then
      gain (fun s => x3 (ix2 (lane (grid0.coords t)) s)) (iblk m c 1 t) (iblk m c 6 t) (iblk m c 7 t) (iblk m c 8 t) (iblk m c 9 t) a q else 0)
      = shareAt m c (tok t a) q t.val := by
  have h1 : (fun d => (iblk m c 1 t (ix2 a d) : EReal)) = fun d => m ((c : Thread nD τ).loc main_arg1) (ix2 (tok t a) d) := funext fun d => blk1 m c t a d
  have h6 : (fun (d f : Fin 1024) => (iblk m c 6 t (ix3 (0 : Fin 1) d (gateCol f)) : EReal))
      = fun d f => m ((c : Thread nD τ).loc main_arg3) (ix3 (exp t) d (⟨2 * f.val, by omega⟩ : Fin 2048)) :=
    funext fun d => funext fun f => (blk6 m c t d _).trans (by rw [origCol_gate])
  have h6' : (fun (d f : Fin 1024) => (iblk m c 6 t (ix3 (0 : Fin 1) d (linCol f)) : EReal))
      = fun d f => m ((c : Thread nD τ).loc main_arg3) (ix3 (exp t) d (⟨2 * f.val + 1, by omega⟩ : Fin 2048)) :=
    funext fun d => funext fun f => (blk6 m c t d _).trans (by rw [origCol_lin])
  have h7 : (fun (f : Fin 1024) => (iblk m c 7 t (ix3 (0 : Fin 1) (0 : Fin 1) (gateCol f)) : EReal))
      = fun f => m ((c : Thread nD τ).loc main_arg4) (ix2 (exp t) (⟨2 * f.val, by omega⟩ : Fin 2048)) :=
    funext fun f => (blk7 m c t _).trans (by rw [origCol_gate])
  have h7' : (fun (f : Fin 1024) => (iblk m c 7 t (ix3 (0 : Fin 1) (0 : Fin 1) (linCol f)) : EReal))
      = fun f => m ((c : Thread nD τ).loc main_arg4) (ix2 (exp t) (⟨2 * f.val + 1, by omega⟩ : Fin 2048)) :=
    funext fun f => (blk7 m c t _).trans (by rw [origCol_lin])
  have h8 : (fun (f : Fin 1024) => (iblk m c 8 t (ix3 (0 : Fin 1) f q) : EReal)) = fun f => m ((c : Thread nD τ).loc main_arg5) (ix3 (exp t) f q) :=
    funext fun f => blk8 m c t f q
  have h9 := blk9 m c t q
  unfold shareAt share gain
  beta_reduce
  rw [h3, h1, h6, h6', h7, h7', h8, h9, lane_eq]
  rfl

/-- A point adds its expert's share. -/
theorem holds_step (c : Dev nD) (t : Fin cfg0.N) (s : St Ideal) (h : Holds m c t (t.val % 32) s) :
    Holds m c t (t.val % 32 + 1) (addExpert m c t s) where
  hi := h.hi
  lo := h.lo
  rt := h.rt
  o a q := by
    have e3 : ∀ e, (fun s => gateAt m c (tok t s) e) = fun s => (iblk m c 3 t (ix2 e s) : EReal) := fun e => funext fun s => (blk3 m c t e s).symm
    refine (point_at (grid0.coords t) (iblk m c 3 t) (iblk m c 1 t) (iblk m c 6 t) (iblk m c 7 t) (iblk m c 8 t) (iblk m c 9 t) s.hi s.lo s.rt s.o
      (fun a' => (h.hi a' _).trans (by rw [e3])) h.lo (fun a' => (h.rt _ a').trans (by rw [e3])) a q).trans ?_
    rw [gain_eq m c t a q (iblk m c 3 t) (blk3 m c t), h.o a q, Finset.sum_range_succ, add_assoc]
    unfold shareAt
    simp only [Nat.mod_mod]

/-- What is carried after every point. -/
theorem holds_all (c : Dev nD) : ∀ (n : ℕ) (t : Fin cfg0.N), t.val = n → Holds m c t (t.val % 32 + 1) (stAt m c (t.val + 1)) := by
  intro n
  induction n with
  | zero =>
    intro t ht
    rw [stAt_succ]
    unfold stepSt
    apply holds_step
    rw [if_pos (by omega)]
    rw [show t.val % 32 = 0 by omega]
    exact holds_start m c t
  | succ n ih =>
    intro t ht
    rw [stAt_succ]
    unfold stepSt
    apply holds_step
    by_cases h0 : t.val % 32 = 0
    · rw [if_pos h0, h0]
      exact holds_start m c t
    · rw [if_neg h0]
      have hlt : n < cfg0.N := by have := t.isLt; omega
      have p := ih ⟨n, hlt⟩ rfl
      have et : ∀ a, tok ⟨n, hlt⟩ a = tok t a := fun a => Fin.ext (by simp only [tok]; rw [ht]; omega)
      have ek : n % 32 + 1 = t.val % 32 := by rw [ht]; omega
      have es : stAt m c t.val = stAt m c (n + 1) := by rw [ht]
      rw [← ek, es]
      exact ⟨fun a e => by rw [p.hi a e]; simp only [et], p.lo, fun e a => by rw [p.rt e a]; simp only [et], fun a q => by rw [p.o a q]; simp only [et]⟩

/-- The layer at a token and a column: the residual and the share of every expert. -/
def layerAt (x1 : Vec Ideal S65536x1024 .f32) (x : Vec Ideal S65536x1024 .bf16) (g : Vec Ideal S65536x128 .f32) (w1 : Vec Ideal S32x1024x2048 .f32)
    (b1 : Vec Ideal S32x2048 .f32) (w2 : Vec Ideal S32x1024x1024 .f32) (b2 : Vec Ideal S32x1024 .f32) (n : Fin 65536) (q : Fin 1024) : EReal :=
  (x1 (ix2 n q) : EReal) + ∑ e : Fin 32, share x g w1 b1 w2 b2 n q e

/-- The layer, as an array. -/
def layer (x1 : Vec Ideal S65536x1024 .f32) (x : Vec Ideal S65536x1024 .bf16) (g : Vec Ideal S65536x128 .f32) (w1 : Vec Ideal S32x1024x2048 .f32)
    (b1 : Vec Ideal S32x2048 .f32) (w2 : Vec Ideal S32x1024x1024 .f32) (b2 : Vec Ideal S32x1024 .f32) : Vec Ideal S65536x1024 .f32 :=
  fun i => layerAt x1 x g w1 b1 w2 b2 (i 0) (i 1)

/-- A tile after its last expert is the layer at its tokens. -/
theorem tile_done (c : Dev nD) (t : Fin cfg0.N) (hl : t.val % 32 = 31) (a q : Fin 1024) :
    ((stAt m c (t.val + 1)).o (ix2 a q) : EReal) = layerAt (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (m ((c : Thread nD τ).loc main_arg6)) (tok t a) q := by
  rw [(holds_all m c t.val t rfl).o a q, hl]
  unfold layerAt resAt
  rw [Finset.sum_range]
  refine congrArg _ (Finset.sum_congr rfl fun e _ => ?_)
  unfold shareAt
  congr 1
  exact Fin.ext (Nat.mod_eq_of_lt e.isLt)

/-- A tile is written back after its last expert only. -/
theorem flush_last : ∀ t : Fin cfg0.N, win0_10.flush t = true → t.val % 32 = 31 := (by decide +kernel : ∀ t : Fin grid0.N, _)

/-- The result array is the layer. -/
theorem result_eq (c : Dev nD) : (dats m 0 c).arrAt 10 cfg0.N = layer (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 10 _ (by decide +kernel) fun t hf y => ?_
  have hl := flush_last t hf
  blk_simp
  rw [after_10]
  idx_vars y
  have he : ((View.whole main_v23).slice (win0_10.rect t)).emb (ix2 y0 y1) = ix2 (tok t y0) y1 := by blk_ext [idx t, tok]
  rw [he]
  exact tile_done m c t hl y0 y1

end Cert.KernelIdeal.Moe

end
-- ==== Proof.Ref.lean ====
/- The reference's value, read at an index. -/
module

public import proofs.«01_k».proof.Proof.Fold
public import proofs.«01_k».proof.Proof.Gen.ReferenceIdeal

@[expose] public section

set_option maxRecDepth 16384

noncomputable section

namespace Cert.ReferenceIdeal.Moe

open Cert.ReferenceIdeal.Gen
open Idealize.ShloMosaic.Tactic Cert.MoeMath
open Idealize.ShloMosaic Idealize.ShloMosaic.TcCoe Idealize.SL.Sem

/-- The hidden values of every expert and token, before the activation. -/
def hid (x : FVec Ideal S65536x1024 .bf16) (w1 : FVec Ideal S32x1024x2048 .f32) (b1 : FVec Ideal S32x2048 .f32) : FVec Ideal S32x65536x2048 .f32 :=
  addf (transpose S32x65536x2048 [0, 2, 1]
      (Host.dotGeneral (F := Ideal) dot_S32x1024x2048_S65536x1024_S32x2048x65536_1_1_02_0_n_n none w1 (extf .f32 x bitsLt_bf16_f32))
      transposes_S32x2048x65536_S32x65536x2048_0_2_1)
    (broadcastInDim S32x65536x2048 ![0, 1, 2] bcast_S32x1x2048_S32x65536x2048_0_1_2 (broadcastInDim S32x1x2048 ![0, 2] bcast_S32x2048_S32x1x2048_0_2 b1))

/-- A number everywhere. -/
def full (w : BitVec 32) : FVec Ideal S32x65536x1024 .f32 :=
  broadcastInDim S32x65536x1024 ![] bcast_S_S32x65536x1024 (constant (F := Ideal) S_ .f32 w : FVec Ideal S_ .f32)

/-- The gate half, clipped. -/
def glu (h : FVec Ideal S32x65536x2048 .f32) : FVec Ideal S32x65536x1024 .f32 :=
  minimumf (Host.slice S32x65536x1024 ![0, 0, 0] ![1, 1, 2] h slicesBy_S32x65536x2048_S32x65536x1024_0s1_0s1_0s2) (full 0x40E00000#32)

/-- The linear half, clipped. -/
def lin (h : FVec Ideal S32x65536x2048 .f32) : FVec Ideal S32x65536x1024 .f32 :=
  minimumf (full 0x40E00000#32) (maximumf (full 0xC0E00000#32)
    (Host.slice S32x65536x1024 ![0, 0, 1] ![1, 1, 2] h slicesBy_S32x65536x2048_S32x65536x1024_0s1_0s1_1s2))

/-- The activation. -/
def act (h : FVec Ideal S32x65536x2048 .f32) : FVec Ideal S32x65536x1024 .f32 :=
  mulf (mulf (glu h) (Host.divf (full 0x3F800000#32) (addf (full 0x3F800000#32) (Host.exp (Host.negf (mulf (full 0x3FD9DB23#32) (glu h)))))))
    (addf (lin h) (full 0x3F800000#32))

/-- Every expert's output for every token. -/
def outs (x : FVec Ideal S65536x1024 .bf16) (w1 : FVec Ideal S32x1024x2048 .f32) (b1 : FVec Ideal S32x2048 .f32)
    (w2 : FVec Ideal S32x1024x1024 .f32) (b2 : FVec Ideal S32x1024 .f32) : FVec Ideal S32x65536x1024 .f32 :=
  addf (Host.dotGeneral (F := Ideal) dot_S32x65536x1024_S32x1024x1024_S32x65536x1024_2_1_1_2_0_0 none (act (hid x w1 b1)) w2)
    (broadcastInDim S32x65536x1024 ![0, 1, 2] bcast_S32x1x1024_S32x65536x1024_0_1_2 (broadcastInDim S32x1x1024 ![0, 2] bcast_S32x1024_S32x1x1024_0_2 b2))

/-- The gates by expert and token. -/
def gat (g : FVec Ideal S65536x128 .f32) : FVec Ideal S32x65536x1 .f32 :=
  broadcastInDim S32x65536x1 ![0, 1] bcast_S32x65536_S32x65536x1_0_1
    (transpose S32x65536 [1, 0] (extractStridedSlice S65536x32 ![0, 0] g slices_S65536x128_S65536x32_0_0) transposes_S65536x32_S32x65536_1_0)

/-- The gated outputs. -/
def gated (o : FVec Ideal S32x65536x1024 .f32) (g : FVec Ideal S65536x128 .f32) : FVec Ideal S32x65536x1024 .f32 :=
  select (broadcastInDim S32x65536x1024 ![0, 1, 2] bcast_S32x65536x1_S32x65536x1024_0_1_2
      (cmpf (F := Ideal) .ogt (gat g) (broadcastInDim S32x65536x1 ![] bcast_S_S32x65536x1 (constant (F := Ideal) S_ .f32 0x00000000#32 : FVec Ideal S_ .f32))))
    (mulf o (broadcastInDim S32x65536x1024 ![0, 1, 2] bcast_S32x65536x1_S32x65536x1024_0_1_2 (gat g)))
    (full 0x00000000#32)

/-- The reference's result. -/
def refOut (x1 : FVec Ideal S65536x1024 .f32) (x : FVec Ideal S65536x1024 .bf16) (g : FVec Ideal S65536x128 .f32) (w1 : FVec Ideal S32x1024x2048 .f32)
    (b1 : FVec Ideal S32x2048 .f32) (w2 : FVec Ideal S32x1024x1024 .f32) (b2 : FVec Ideal S32x1024 .f32) : FVec Ideal S65536x1024 .f32 :=
  addf x1 (Host.reduceAdd (F := Ideal) (gated (outs x w1 b1 w2 b2) g) (constant (F := Ideal) S_ .f32 0x00000000#32 : FVec Ideal S_ .f32)
    reducesTo_S32x65536x1024_S65536x1024_d0 h_S_)

/-- A hidden value is the token's row times the column, plus the bias. -/
theorem hid_at (x : FVec Ideal S65536x1024 .bf16) (w1 : FVec Ideal S32x1024x2048 .f32) (b1 : FVec Ideal S32x2048 .f32) (e : Fin 32) (n : Fin 65536) (k : Fin 2048) :
    (hid x w1 b1 (ix3 e n k) : EReal) = (∑ d : Fin 1024, (x (ix2 n d) : EReal) * (w1 (ix3 e d k) : EReal)) + (b1 (ix2 e k) : EReal) := by
  pointwise [hid]
  exact congrArg (· + (b1 (ix2 e k) : EReal)) (Finset.sum_congr rfl fun d _ => mul_comm _ _)

/-- The activation at an index. -/
theorem act_at (h : FVec Ideal S32x65536x2048 .f32) (e : Fin 32) (n : Fin 65536) (f : Fin 1024) :
    (act h (ix3 e n f) : EReal) = swiglu (h (ix3 e n (⟨2 * f.val, by omega⟩ : Fin 2048)) : EReal) (h (ix3 e n (⟨2 * f.val + 1, by omega⟩ : Fin 2048)) : EReal) := by
  pointwise [act, lin, glu, full]
  unfold swiglu
  simp only [Nat.add_comm 1]
  rfl

/-- An expert's output at an index. -/
theorem outs_at (x : FVec Ideal S65536x1024 .bf16) (w1 : FVec Ideal S32x1024x2048 .f32) (b1 : FVec Ideal S32x2048 .f32)
    (w2 : FVec Ideal S32x1024x1024 .f32) (b2 : FVec Ideal S32x1024 .f32) (e : Fin 32) (n : Fin 65536) (q : Fin 1024) :
    (outs x w1 b1 w2 b2 (ix3 e n q) : EReal) = (∑ f : Fin 1024, (act (hid x w1 b1) (ix3 e n f) : EReal) * (w2 (ix3 e f q) : EReal)) + (b2 (ix2 e q) : EReal) := by
  unfold outs
  generalize act (hid x w1 b1) = a
  pointwise

/-- A gated output at an index. -/
theorem gated_at (o : FVec Ideal S32x65536x1024 .f32) (g : FVec Ideal S65536x128 .f32) (e : Fin 32) (n : Fin 65536) (q : Fin 1024) :
    (gated o g (ix3 e n q) : EReal) = if 0 < (g (ix2 n (⟨e.val, by omega⟩ : Fin 128)) : EReal) then (o (ix3 e n q) : EReal) * (g (ix2 n (⟨e.val, by omega⟩ : Fin 128)) : EReal) else 0 := by
  pointwise [gated, gat, full]

/-- The reference's result at an index. -/
theorem refOut_at (x1 : FVec Ideal S65536x1024 .f32) (x : FVec Ideal S65536x1024 .bf16) (g : FVec Ideal S65536x128 .f32) (w1 : FVec Ideal S32x1024x2048 .f32)
    (b1 : FVec Ideal S32x2048 .f32) (w2 : FVec Ideal S32x1024x1024 .f32) (b2 : FVec Ideal S32x1024 .f32) (n : Fin 65536) (q : Fin 1024) :
    (refOut x1 x g w1 b1 w2 b2 (ix2 n q) : EReal) = (x1 (ix2 n q) : EReal) + ∑ e : Fin 32, (gated (outs x w1 b1 w2 b2) g (ix3 e n q) : EReal) := by
  unfold refOut
  generalize gated (outs x w1 b1 w2 b2) g = a
  pointwise

/-- The reference computes the layer. -/
theorem refOut_eq (x1 : FVec Ideal S65536x1024 .f32) (x : FVec Ideal S65536x1024 .bf16) (g : FVec Ideal S65536x128 .f32) (w1 : FVec Ideal S32x1024x2048 .f32)
    (b1 : FVec Ideal S32x2048 .f32) (w2 : FVec Ideal S32x1024x1024 .f32) (b2 : FVec Ideal S32x1024 .f32) :
    refOut x1 x g w1 b1 w2 b2 = Cert.KernelIdeal.Moe.layer x1 x g w1 b1 w2 b2 := by
  funext i
  idx_vars i
  refine (refOut_at x1 x g w1 b1 w2 b2 i0 i1).trans ?_
  show _ = Cert.KernelIdeal.Moe.layerAt x1 x g w1 b1 w2 b2 i0 i1
  unfold Cert.KernelIdeal.Moe.layerAt
  refine congrArg _ (Finset.sum_congr rfl fun e _ => ?_)
  rw [gated_at, outs_at]
  simp only [act_at, hid_at]
  rfl

end Cert.ReferenceIdeal.Moe

end
-- ==== Proof.Same.lean ====
/- The two kernels are one program.

`Kernel` (over float values) and `KernelIdeal` (over real numbers) are printed from the same text. Here, over float
values: their constant table, their body, their body tables and their host programs are equal, so a run proved of one
is a run of the other. -/
module

public import proofs.«01_k».proof.Proof.Run
public import proofs.«01_k».proof.Proof.Gen.Kernel
public import proofs.«01_k».proof.Defs

@[expose] public section

set_option maxRecDepth 16384

noncomputable section

namespace Cert.Same

open Idealize.ShloMosaic Idealize.ShloMosaic.TcCoe Idealize.SL.Sem

/-- The two tables of column numbers are the same. -/
theorem lit_eq : Cert.Kernel.lit0 = Cert.KernelIdeal.lit0 := funext (by decide +kernel)

/-- The two bodies of the call are the same program. -/
theorem body_eq : @Cert.Kernel.cc0_moe Bits _ Cert.Kernel.Gen.facts
    = @Cert.KernelIdeal.cc0_moe Bits _ Cert.KernelIdeal.Gen.facts := rfl

set_option maxHeartbeats 4000000 in
/-- The two tables of bodies are the same. -/
theorem defs₀_eq : (Cert.Kernel.defs₀ (F := Bits)) = Cert.KernelIdeal.defs₀ (F := Bits) := by
  unfold Cert.Kernel.defs₀
  rw [body_eq]
  unfold Cert.KernelIdeal.defs₀
  refine congrArg Defs.onTc ?_
  funext l a
  match l, a with
  | ⟨0, _⟩, (t, s) => rfl

set_option maxHeartbeats 4000000 in
/-- The two tables of bodies stay the same with the pipeline's own bodies added. -/
theorem defs_eq : (Cert.Kernel.defs (F := Bits)) = Cert.KernelIdeal.defs (F := Bits) := by
  unfold Cert.Kernel.defs
  rw [defs₀_eq]
  rfl

set_option maxHeartbeats 4000000 in
/-- The two host programs are the same. -/
theorem main_eq : (Cert.Kernel.main (F := Bits)) = Cert.KernelIdeal.main (F := Bits) := by
  unfold Cert.Kernel.main
  rw [lit_eq]
  unfold Cert.KernelIdeal.main
  rfl

end Cert.Same

end
-- ==== Proof.MergeValue.lean ====
/- The merge call: the new residual and the normed activations its pipeline writes, index by index. -/
module

public import proofs.«01_k».proof.Proof.Gen.MergeIdeal.Value
public import Idealize.ShloMosaic.Lib.Pipeline.ValueKit

@[expose] public section

set_option maxRecDepth 16384

noncomputable section

namespace Cert.MergeIdeal.Mix

open Cert.MergeIdeal.Gen
open Idealize.ShloMosaic.Tactic
open Idealize.ShloMosaic Idealize.ShloMosaic.TcCoe Idealize.SL.Sem

/-- The row of the batch a token lies in. -/
def seqOf (n : Fin 65536) : Fin 8 := ⟨n.val / 8192, by omega⟩

/-- A token's place in its row. -/
def posOf (n : Fin 65536) : Fin 8192 := ⟨n.val % 8192, by omega⟩

/-- The two branches, each projected and gated, added. -/
def mixAt (oa ob : Vec Ideal S8x8192x512 .bf16) (ga gb : Vec Ideal S65536x1024 .f32) (wa wb : Vec Ideal S512x1024 .f32) (n : Fin 65536) (k : Fin 1024) : EReal :=
  (ga (ix2 n k) : EReal) * (∑ j : Fin 512, (oa (ix3 (seqOf n) (posOf n) j) : EReal) * (wa (ix2 j k) : EReal))
    + (gb (ix2 n k) : EReal) * (∑ j : Fin 512, (ob (ix3 (seqOf n) (posOf n) j) : EReal) * (wb (ix2 j k) : EReal))

/-- The new residual: the old one and the projected merge. -/
def resAt (x : Vec Ideal S8x8192x1024 .f32) (oa ob : Vec Ideal S8x8192x512 .bf16) (ga gb : Vec Ideal S65536x1024 .f32) (wa wb : Vec Ideal S512x1024 .f32) (wo : Vec Ideal S1024x1024 .f32) (n : Fin 65536) (q : Fin 1024) : EReal :=
  (x (ix3 (seqOf n) (posOf n) q) : EReal) + ∑ k : Fin 1024, mixAt oa ob ga gb wa wb n k * (wo (ix2 k q) : EReal)

/-- A row's entry divided by the root of the row's mean square, times the gain. -/
def normed (r : Fin 1024 → EReal) (g : EReal) (q : Fin 1024) : EReal :=
  r q * Ideal.rsqrt (Ideal.div (∑ k : Fin 1024, r k * r k) (Ideal.ofBits FTy.f32 0x44800000#32) + Ideal.ofBits FTy.f32 0x358637BD#32) * g

/-- The new residual, as an array. -/
def res (x : Vec Ideal S8x8192x1024 .f32) (oa ob : Vec Ideal S8x8192x512 .bf16) (ga gb : Vec Ideal S65536x1024 .f32) (wa wb : Vec Ideal S512x1024 .f32) (wo : Vec Ideal S1024x1024 .f32) : Vec Ideal S65536x1024 .f32 :=
  fun i => resAt x oa ob ga gb wa wb wo (i 0) (i 1)

/-- The normed activations, as an array. -/
def act (x : Vec Ideal S8x8192x1024 .f32) (oa ob : Vec Ideal S8x8192x512 .bf16) (ga gb : Vec Ideal S65536x1024 .f32) (wa wb : Vec Ideal S512x1024 .f32) (wo : Vec Ideal S1024x1024 .f32) (gn : Vec Ideal S1024 .f32) : Vec Ideal S65536x1024 .bf16 :=
  fun i => normed (fun k => resAt x oa ob ga gb wa wb wo (i 0) k) (gn (ix1 (i 1))) (i 1)

/-- The body's residual at an index of its tile. -/
theorem pay3_at (v0 : Vec Ideal S512x1024 .f32) (v1 : Vec Ideal S1x512x512 .bf16) (v3 : Vec Ideal S512x1024 .bf16) (v7 : Vec Ideal S512x1024 .f32)
    (v8 : Vec Ideal S1x512x512 .bf16) (v10 : Vec Ideal S512x1024 .bf16) (v15 : Vec Ideal S512x1024 .f32) (v18 : Vec Ideal S1024x1024 .bf16) (a : Fin 512) (q : Fin 1024) :
    (k0_pay3 v0 v1 v3 v7 v8 v10 v15 v18 (ix2 a q) : EReal) = (v15 (ix2 a q) : EReal) + ∑ k : Fin 1024,
      ((v0 (ix2 a k) : EReal) * (∑ j : Fin 512, (v1 (ix3 (0 : Fin 1) a j) : EReal) * (v3 (ix2 j k) : EReal))
        + (v7 (ix2 a k) : EReal) * (∑ j : Fin 512, (v8 (ix3 (0 : Fin 1) a j) : EReal) * (v10 (ix2 j k) : EReal))) * (v18 (ix2 k q) : EReal) := by
  pointwise [k0_pay3]

/-- The body's mean square of a row of its tile. -/
theorem pay5_at (v0 : Vec Ideal S512x1024 .f32) (v1 : Vec Ideal S1x512x512 .bf16) (v3 : Vec Ideal S512x1024 .bf16) (v7 : Vec Ideal S512x1024 .f32)
    (v8 : Vec Ideal S1x512x512 .bf16) (v10 : Vec Ideal S512x1024 .bf16) (v15 : Vec Ideal S512x1024 .f32) (v18 : Vec Ideal S1024x1024 .bf16) (a : Fin 512) :
    (k0_pay5 v0 v1 v3 v7 v8 v10 v15 v18 (ix2 a (0 : Fin 1)) : EReal) = Ideal.div (∑ k : Fin 1024, (k0_pay3 v0 v1 v3 v7 v8 v10 v15 v18 (ix2 a k) : EReal) * (k0_pay3 v0 v1 v3 v7 v8 v10 v15 v18 (ix2 a k) : EReal))
      (Ideal.ofBits FTy.f32 0x44800000#32) := by
  unfold k0_pay5
  generalize k0_pay3 v0 v1 v3 v7 v8 v10 v15 v18 = A
  pointwise

/-- The body's normed activation at an index of its tile. -/
theorem pay6_at (v21 : FVec Ideal S512x1024 .f32) (v24 : FVec Ideal S1x1024 .f32) (v29 : FVec Ideal S512x1 .f32) (a : Fin 512) (q : Fin 1024) :
    (k0_pay6 v21 v24 v29 (ix2 a q) : EReal) = (v21 (ix2 a q) : EReal) * Ideal.rsqrt ((v29 (ix2 a (0 : Fin 1)) : EReal) + Ideal.ofBits FTy.f32 0x358637BD#32) * (v24 (ix2 (0 : Fin 1) q) : EReal) := by
  pointwise [k0_pay6]

/-- The gain as the body reads it. -/
theorem pay4_at (v : Vec Ideal S1x1024 .f32) (q : Fin 1024) : (k0_pay4 v (ix2 (0 : Fin 1) q) : EReal) = (v (ix2 (0 : Fin 1) q) : EReal) := by
  pointwise [k0_pay4]

/-- The block of residuals a point writes. -/
theorem out11_at (x0 : Vec Ideal S512x1024 .f32) (x1 x2 : Vec Ideal S1x512x512 .bf16) (x3 x4 : Vec Ideal S512x1024 .f32) (x5 x6 : Vec Ideal S512x1024 .bf16) (x7 : Vec Ideal S1024x1024 .bf16) (x8 : Vec Ideal S1x1024 .f32) (x9) (x10) (a : Fin 512) (q : Fin 1024) :
    (out0_11 x0 x1 x2 x3 x4 x5 x6 x7 x8 x9 x10 (ix2 a q) : EReal) = (k0_pay3 x3 x1 x5 x4 x2 x6 x0 x7 (ix2 a q) : EReal) := by
  frame_out

/-- The block of activations a point writes. -/
theorem out12_at (x0 : Vec Ideal S512x1024 .f32) (x1 x2 : Vec Ideal S1x512x512 .bf16) (x3 x4 : Vec Ideal S512x1024 .f32) (x5 x6 : Vec Ideal S512x1024 .bf16) (x7 : Vec Ideal S1024x1024 .bf16) (x8 : Vec Ideal S1x1024 .f32) (x9) (x10) (a : Fin 512) (q : Fin 1024) :
    (out0_12 x0 x1 x2 x3 x4 x5 x6 x7 x8 x9 x10 (ix2 a q) : EReal) = normed (fun k => (k0_pay3 x3 x1 x5 x4 x2 x6 x0 x7 (ix2 a k) : EReal)) (x8 (ix2 (0 : Fin 1) q)) q := by
  unfold out0_12 k0_pay27 k0_pay28 k0_pay29
  frame_out
  refine (pay6_at _ _ _ a q).trans ?_
  rw [pay5_at, pay4_at]
  rfl

variable (m : (ℓ : Loc nD τ sig) → Buf (Elt Ideal) ℓ)

/-- The old residual the pipeline finds: a row per token. -/
theorem x_at (c : Dev nD) (n : Fin 65536) (q : Fin 1024) :
    (V m c main_v0 (ix2 n q) : EReal) = m ((c : Thread nD τ).loc main_arg0) (ix3 (seqOf n) (posOf n) q) := by
  simp only [V, hostOps0, List.flatten_cons, List.flatten_nil, List.append_nil, List.cons_append, List.nil_append]
  entry_read
  pointwise
  rfl

/-- The first branch's matrix the pipeline finds. -/
theorem wa_at (c : Dev nD) (e : Fin 512) (n : Fin 1024) : (V m c main_v1 (ix2 e n) : EReal) = m ((c : Thread nD τ).loc main_arg5) (ix2 e n) := by
  simp only [V, hostOps0, List.flatten_cons, List.flatten_nil, List.append_nil, List.cons_append, List.nil_append]
  entry_read
  pointwise

/-- The second branch's matrix the pipeline finds. -/
theorem wb_at (c : Dev nD) (e : Fin 512) (n : Fin 1024) : (V m c main_v2 (ix2 e n) : EReal) = m ((c : Thread nD τ).loc main_arg6) (ix2 e n) := by
  simp only [V, hostOps0, List.flatten_cons, List.flatten_nil, List.append_nil, List.cons_append, List.nil_append]
  entry_read
  pointwise

/-- The output matrix the pipeline finds. -/
theorem wo_at (c : Dev nD) (e : Fin 1024) (n : Fin 1024) : (V m c main_v9 (ix2 e n) : EReal) = m ((c : Thread nD τ).loc main_arg7) (ix2 e n) := by
  simp only [V, hostOps0, List.flatten_cons, List.flatten_nil, List.append_nil, List.cons_append, List.nil_append]
  entry_read
  pointwise

/-- The gain the pipeline finds. -/
theorem gn_at (c : Dev nD) (q : Fin 1024) : (V m c main_v10 (ix2 (0 : Fin 1) q) : EReal) = m ((c : Thread nD τ).loc main_arg8) (ix1 q) := by
  simp only [V, hostOps0, List.flatten_cons, List.flatten_nil, List.append_nil, List.cons_append, List.nil_append]
  entry_read
  pointwise

/-- Where each point's blocks lie. -/
theorem idx : ∀ t : Fin cfg0.N, win0_0.index t = ![t.val, 0] ∧ win0_1.index t = ![t.val / 16, t.val % 16, 0] ∧ win0_2.index t = ![t.val / 16, t.val % 16, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_11.index t = ![t.val, 0] ∧ win0_12.index t = ![t.val, 0] ∧ t.val < 128 :=
  (by decide +kernel : ∀ t : Fin grid0.N, _)

/-- The points are 128. -/
theorem pt_lt (t : Fin cfg0.N) : t.val < 128 := (idx t).2.2.2.2.2.2.2.2.2.2.2

/-- The token of row `a` of a point's tile. -/
def tok (t : Fin cfg0.N) (a : Fin 512) : Fin 65536 := ⟨t.val * 512 + a.val, by have := pt_lt t; omega⟩

/-- The tile's row of the batch. -/
theorem seq_tok (t : Fin cfg0.N) (a : Fin 512) : (seqOf (tok t a)).val = t.val / 16 := by simp only [seqOf, tok]; omega

/-- The tile's place in its row. -/
theorem pos_tok (t : Fin cfg0.N) (a : Fin 512) : (posOf (tok t a)).val = t.val % 16 * 512 + a.val := by simp only [posOf, tok]; omega

/-- The old residual's tile. -/
theorem blk0 (c : Dev nD) (t : Fin cfg0.N) (a : Fin 512) (q : Fin 1024) :
    (iblk m c 0 t (ix2 a q) : EReal) = m ((c : Thread nD τ).loc main_arg0) (ix3 (seqOf (tok t a)) (posOf (tok t a)) q) := by
  refine Eq.trans ?_ (x_at m c (tok t a) q)
  blk_ext [iblk, idx t, tok]

/-- The first branch's tile. -/
theorem blk1 (c : Dev nD) (t : Fin cfg0.N) (a : Fin 512) (j : Fin 512) :
    (iblk m c 1 t (ix3 (0 : Fin 1) a j) : EReal) = m ((c : Thread nD τ).loc main_arg1) (ix3 (seqOf (tok t a)) (posOf (tok t a)) j) := by
  have e1 := seq_tok t a
  have e2 := pos_tok t a
  blk_ext [iblk, V, idx t, e1, e2]

/-- The second branch's tile. -/
theorem blk2 (c : Dev nD) (t : Fin cfg0.N) (a : Fin 512) (j : Fin 512) :
    (iblk m c 2 t (ix3 (0 : Fin 1) a j) : EReal) = m ((c : Thread nD τ).loc main_arg2) (ix3 (seqOf (tok t a)) (posOf (tok t a)) j) := by
  have e1 := seq_tok t a
  have e2 := pos_tok t a
  blk_ext [iblk, V, idx t, e1, e2]

/-- The first branch's gates' tile. -/
theorem blk3 (c : Dev nD) (t : Fin cfg0.N) (a : Fin 512) (q : Fin 1024) :
    (iblk m c 3 t (ix2 a q) : EReal) = m ((c : Thread nD τ).loc main_arg3) (ix2 (tok t a) q) := by
  blk_ext [iblk, V, idx t, tok]

/-- The second branch's gates' tile. -/
theorem blk4 (c : Dev nD) (t : Fin cfg0.N) (a : Fin 512) (q : Fin 1024) :
    (iblk m c 4 t (ix2 a q) : EReal) = m ((c : Thread nD τ).loc main_arg4) (ix2 (tok t a) q) := by
  blk_ext [iblk, V, idx t, tok]

/-- The first branch's matrix. -/
theorem blk5 (c : Dev nD) (t : Fin cfg0.N) (j : Fin 512) (k : Fin 1024) :
    (iblk m c 5 t (ix2 j k) : EReal) = m ((c : Thread nD τ).loc main_arg5) (ix2 j k) := by
  refine Eq.trans ?_ (wa_at m c j k)
  blk_ext [iblk, idx t]

/-- The second branch's matrix. -/
theorem blk6 (c : Dev nD) (t : Fin cfg0.N) (j : Fin 512) (k : Fin 1024) :
    (iblk m c 6 t (ix2 j k) : EReal) = m ((c : Thread nD τ).loc main_arg6) (ix2 j k) := by
  refine Eq.trans ?_ (wb_at m c j k)
  blk_ext [iblk, idx t]

/-- The output matrix. -/
theorem blk7 (c : Dev nD) (t : Fin cfg0.N) (j : Fin 1024) (k : Fin 1024) :
    (iblk m c 7 t (ix2 j k) : EReal) = m ((c : Thread nD τ).loc main_arg7) (ix2 j k) := by
  refine Eq.trans ?_ (wo_at m c j k)
  blk_ext [iblk, idx t]

/-- The gain. -/
theorem blk8 (c : Dev nD) (t : Fin cfg0.N) (q : Fin 1024) :
    (iblk m c 8 t (ix2 (0 : Fin 1) q) : EReal) = m ((c : Thread nD τ).loc main_arg8) (ix1 q) := by
  refine Eq.trans ?_ (gn_at m c q)
  blk_ext [iblk, idx t]

/-- A point's residuals are its tokens'. -/
theorem tile_res (c : Dev nD) (t : Fin cfg0.N) (a : Fin 512) (q : Fin 1024) :
    (k0_pay3 (iblk m c 3 t) (iblk m c 1 t) (iblk m c 5 t) (iblk m c 4 t) (iblk m c 2 t) (iblk m c 6 t) (iblk m c 0 t) (iblk m c 7 t) (ix2 a q) : EReal)
      = resAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (tok t a) q := by
  refine (pay3_at _ _ _ _ _ _ _ _ a q).trans ?_
  unfold resAt mixAt
  simp only [blk0, blk1, blk2, blk3, blk4, blk5, blk6, blk7]

/-- The residual array is the new residual. -/
theorem res_eq (c : Dev nD) : (dats m 0 c).arrAt 11 cfg0.N = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  idx_vars y
  have he : ((View.whole main_v11_0).slice (win0_11.rect t)).emb (ix2 y0 y1) = ix2 (tok t y0) y1 := by blk_ext [idx t, tok]
  rw [he]
  exact (out11_at _ _ _ _ _ _ _ _ _ _ _ y0 y1).trans (tile_res m c t y0 y1)

/-- The activations' array is the normed residual. -/
theorem act_eq (c : Dev nD) : (dats m 0 c).arrAt 12 cfg0.N = act (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  idx_vars y
  have he : ((View.whole main_v11_1).slice (win0_12.rect t)).emb (ix2 y0 y1) = ix2 (tok t y0) y1 := by blk_ext [idx t, tok]
  rw [he]
  refine (out12_at _ _ _ _ _ _ _ _ _ _ _ y0 y1).trans ?_
  show _ = normed (fun k => resAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (tok t y0) k) (m ((c : Thread nD τ).loc main_arg8) (ix1 y1)) y1
  simp only [tile_res, blk8]

end Cert.MergeIdeal.Mix

end
-- ==== Proof.MergeRef.lean ====
/- The merge's reference: its two results are the same arrays the pipeline writes. -/
module

public import proofs.«01_k».proof.Proof.MergeValue
public import proofs.«01_k».proof.Proof.Gen.MergeReferenceIdeal.Run

@[expose] public section

set_option maxRecDepth 16384

noncomputable section

namespace Cert.MergeReferenceIdeal.Mix

open Cert.MergeReferenceIdeal Cert.MergeReferenceIdeal.Gen
open Idealize.ShloMosaic.Tactic
open Idealize.ShloMosaic Idealize.ShloMosaic.TcCoe Idealize.SL.Sem

/-- A branch, projected. -/
def proj (o : FVec Ideal S8x8192x512 .bf16) (w : FVec Ideal S512x1024 .f32) : FVec Ideal S65536x1024 .f32 :=
  Host.dotGeneral (F := Ideal) dot_S65536x512_S512x1024_S65536x1024_1_0_0_1_n_n none (shapeCast _ (extf (F := Ideal) .f32 o bitsLt_bf16_f32) shapeCasts_S8x8192x512_S65536x512) w

/-- The reference's residual. -/
def refRes (x : FVec Ideal S8x8192x1024 .f32) (oa ob : FVec Ideal S8x8192x512 .bf16) (ga gb : FVec Ideal S65536x1024 .f32) (wa wb : FVec Ideal S512x1024 .f32) (wo : FVec Ideal S1024x1024 .f32) : FVec Ideal S65536x1024 .f32 :=
  addf (shapeCast _ x shapeCasts_S8x8192x1024_S65536x1024) (Host.dotGeneral (F := Ideal) dot_S65536x1024_S1024x1024_S65536x1024_1_0_0_1_n_n none
    (addf (mulf ga (proj oa wa)) (mulf gb (proj ob wb))) wo)

/-- The reference's normalisation of an array's rows. -/
def refNorm (r : FVec Ideal S65536x1024 .f32) (gn : FVec Ideal S1024 .f32) : FVec Ideal S65536x1024 .bf16 :=
  truncf (F := Ideal) .bf16 (mulf (mulf r (broadcastInDim S65536x1024 ![0, 1] bcast_S65536x1_S65536x1024_0_1 (Host.rsqrt (F := Ideal) (addf (Host.divf (F := Ideal)
    (broadcastInDim S65536x1 ![0] bcast_S65536_S65536x1_0 (Host.reduceAdd (F := Ideal) (mulf r r) (constant (F := Ideal) S_ .f32 0x00000000#32 : FVec Ideal S_ .f32) reducesTo_S65536x1024_S65536_d1 h_S_))
    (broadcastInDim S65536x1 ![] bcast_S_S65536x1 (constant (F := Ideal) S_ .f32 0x44800000#32 : FVec Ideal S_ .f32)))
    (broadcastInDim S65536x1 ![] bcast_S_S65536x1 (constant (F := Ideal) S_ .f32 0x358637BD#32 : FVec Ideal S_ .f32))))))
    (broadcastInDim S65536x1024 ![0, 1] bcast_S1x1024_S65536x1024_0_1 (broadcastInDim S1x1024 ![1] bcast_S1024_S1x1024_1 gn))) bitsLt_bf16_f32

/-- A projected branch at an index. -/
theorem proj_at (o : FVec Ideal S8x8192x512 .bf16) (w : FVec Ideal S512x1024 .f32) (n : Fin 65536) (k : Fin 1024) :
    (proj o w (ix2 n k) : EReal) = ∑ j : Fin 512, (o (ix3 (Cert.MergeIdeal.Mix.seqOf n) (Cert.MergeIdeal.Mix.posOf n) j) : EReal) * (w (ix2 j k) : EReal) := by
  pointwise [proj]
  rfl

/-- The reference's residual at an index. -/
theorem refRes_at (x : FVec Ideal S8x8192x1024 .f32) (oa ob : FVec Ideal S8x8192x512 .bf16) (ga gb : FVec Ideal S65536x1024 .f32) (wa wb : FVec Ideal S512x1024 .f32) (wo : FVec Ideal S1024x1024 .f32) (n : Fin 65536) (q : Fin 1024) :
    (refRes x oa ob ga gb wa wb wo (ix2 n q) : EReal) = Cert.MergeIdeal.Mix.resAt x oa ob ga gb wa wb wo n q := by
  unfold Cert.MergeIdeal.Mix.resAt Cert.MergeIdeal.Mix.mixAt refRes
  simp only [← proj_at]
  generalize proj oa wa = A
  generalize proj ob wb = B
  pointwise
  rfl

/-- The normalisation at an index. -/
theorem refNorm_at (r : FVec Ideal S65536x1024 .f32) (gn : FVec Ideal S1024 .f32) (n : Fin 65536) (q : Fin 1024) :
    (refNorm r gn (ix2 n q) : EReal) = Cert.MergeIdeal.Mix.normed (fun k => (r (ix2 n k) : EReal)) (gn (ix1 q)) q := by
  pointwise [refNorm]
  rfl

/-- The reference's residual is the array the pipeline writes. -/
theorem refRes_eq (x : FVec Ideal S8x8192x1024 .f32) (oa ob : FVec Ideal S8x8192x512 .bf16) (ga gb : FVec Ideal S65536x1024 .f32) (wa wb : FVec Ideal S512x1024 .f32) (wo : FVec Ideal S1024x1024 .f32) : refRes x oa ob ga gb wa wb wo = Cert.MergeIdeal.Mix.res x oa ob ga gb wa wb wo := by
  funext i
  idx_vars i
  exact refRes_at x oa ob ga gb wa wb wo i0 i1

/-- The reference's activations are the array the pipeline writes. -/
theorem refAct_eq (x : FVec Ideal S8x8192x1024 .f32) (oa ob : FVec Ideal S8x8192x512 .bf16) (ga gb : FVec Ideal S65536x1024 .f32) (wa wb : FVec Ideal S512x1024 .f32) (wo : FVec Ideal S1024x1024 .f32) (gn : FVec Ideal S1024 .f32) : refNorm (refRes x oa ob ga gb wa wb wo) gn = Cert.MergeIdeal.Mix.act x oa ob ga gb wa wb wo gn := by
  funext i
  idx_vars i
  refine (refNorm_at _ gn i0 i1).trans ?_
  show _ = Cert.MergeIdeal.Mix.normed (fun k => Cert.MergeIdeal.Mix.resAt x oa ob ga gb wa wb wo i0 k) (gn (ix1 i1)) i1
  simp only [refRes_at]

end Cert.MergeReferenceIdeal.Mix

end
-- ==== Proof.InSame.lean ====
/- The input projection's two printed programs are one program, so a run proved of one is a run of the other. -/
module

public import proofs.«01_k».proof.Proof.Gen.In
public import proofs.«01_k».proof.Proof.Gen.InIdeal
public import proofs.«01_k».proof.Defs

@[expose] public section

set_option maxRecDepth 16384

noncomputable section

namespace Cert.SameIn

open Idealize.ShloMosaic Idealize.ShloMosaic.TcCoe Idealize.SL.Sem

set_option maxHeartbeats 4000000 in
/-- The two bodies of the call are the same program. -/
theorem body_eq : @Cert.In.cc0_in_proj Bits _ Cert.In.Gen.facts = @Cert.InIdeal.cc0_in_proj Bits _ Cert.InIdeal.Gen.facts := rfl

set_option maxHeartbeats 4000000 in
/-- The two tables of bodies are the same. -/
theorem defs₀_eq : (Cert.In.defs₀ (F := Bits)) = Cert.InIdeal.defs₀ (F := Bits) := by
  unfold Cert.In.defs₀
  rw [body_eq]
  unfold Cert.InIdeal.defs₀
  refine congrArg Defs.onTc ?_
  funext l a
  match l, a with
  | ⟨0, _⟩, (t, s) => rfl

set_option maxHeartbeats 4000000 in
/-- The two tables of bodies stay the same with the pipeline's own bodies added. -/
theorem defs_eq : (Cert.In.defs (F := Bits)) = Cert.InIdeal.defs (F := Bits) := by
  unfold Cert.In.defs
  rw [defs₀_eq]
  rfl

set_option maxHeartbeats 4000000 in
/-- The two host programs are the same. -/
theorem main_eq : (Cert.In.main (F := Bits)) = Cert.InIdeal.main (F := Bits) := rfl

end Cert.SameIn

end
-- ==== Proof.InRun.lean ====
/- The input projection's body, run once: the pieces its stores leave in each output's staging buffer, with its triple. -/
module

public import proofs.«01_k».proof.Proof.Gen.InIdeal.Frame.Runs

@[expose] public section

set_option maxRecDepth 16384

noncomputable section

namespace Cert.InIdeal.Run

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- The pieces that the body's stores leave in each output's buffer, the last first, with the proof that the body, started on
    whole buffers with the inputs' contents in theirs, ends with the inputs as they were and each output's pieces written. -/
noncomputable def kernelRun0_A (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x768 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S1024x128 .bf16) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S128x128 .bf16) (harg14 : arg14.IsWhole) (arg15 : Memref sig .tc .vmem S1x512 .f32) (harg15 : arg15.IsWhole) (arg16 : Memref sig .tc .vmem S1x128 .f32) (harg16 : arg16.IsWhole) (arg17 : Memref sig .tc .vmem S1x512 .f32) (harg17 : arg17.IsWhole) (arg18 : Memref sig .tc .vmem S1x128 .f32) (harg18 : arg18.IsWhole) (arg19 : Memref sig .tc .vmem S128x64 .bf16) (harg19 : arg19.IsWhole) (arg20 : Memref sig .tc .vmem S128x64 .bf16) (harg20 : arg20.IsWhole) (arg21 : Memref sig .tc .vmem S1x64 .f32) (harg21 : arg21.IsWhole) (arg22 : Memref sig .tc .vmem S1x8x256x64 .bf16) (harg22 : arg22.IsWhole) (arg23 : Memref sig .tc .vmem S1x2x256x64 .f32) (harg23 : arg23.IsWhole) (arg24 : Memref sig .tc .vmem S1x2x256x64 .f32) (harg24 : arg24.IsWhole) (arg25 : Memref sig .tc .vmem S1x2x256x64 .bf16) (harg25 : arg25.IsWhole) (arg26 : Memref sig .tc .vmem S1x2x72x256 .bf16) (harg26 : arg26.IsWhole) (arg27 : Memref sig .tc .vmem S1x2x256x64 .bf16) (harg27 : arg27.IsWhole) (arg28 : Memref sig .tc .vmem S1x2x72x256 .bf16) (harg28 : arg28.IsWhole) (arg29 : Memref sig .tc .vmem S1x32x256 .f32) (harg29 : arg29.IsWhole) (arg30 : Memref sig .tc .vmem S1x8x256x64 .bf16) (harg30 : arg30.IsWhole) (arg31 : Memref sig .tc .vmem S256x64 .bf16) (harg31 : arg31.IsWhole) (arg32 : Memref sig .tc .vmem S1x72x256 .bf16) (harg32 : arg32.IsWhole) (arg33 : Memref sig .tc .vmem S1x8x256x64 .bf16) (harg33 : arg33.IsWhole) (arg34 : Memref sig .tc .vmem S256x64 .bf16) (harg34 : arg34.IsWhole) (arg35 : Memref sig .tc .vmem S256x1024 .f32) (harg35 : arg35.IsWhole) (arg36 : Memref sig .tc .vmem S256x1024 .f32) (harg36 : arg36.IsWhole)
    (x0 : Vec F S256x1024 .f32) (x1 : Vec F S1x1024 .f32) (x2 : Vec F S1024x512 .bf16) (x3 : Vec F S1024x768 .bf16) (x4 : Vec F S1024x128 .bf16) (x5 : Vec F S1024x512 .bf16) (x6 : Vec F S1024x128 .bf16) (x7 : Vec F S1024x512 .bf16) (x8 : Vec F S1024x64 .bf16) (x9 : Vec F S1024x1024 .bf16) (x10 : Vec F S1024x1024 .bf16) (x11 : Vec F S512x512 .bf16) (x12 : Vec F S128x128 .bf16) (x13 : Vec F S1x512 .f32) (x14 : Vec F S1x128 .f32) (x15 : Vec F S1x512 .f32) (x16 : Vec F S1x128 .f32) (x17 : Vec F S128x64 .bf16) (x18 : Vec F S128x64 .bf16) (x19 : Vec F S1x64 .f32) :
    Σ' (L20 : List (View.Piece (Elt F) S1x8x256x64 .bf16)), Σ' (L21 : List (View.Piece (Elt F) S1x2x256x64 .f32)), Σ' (L22 : List (View.Piece (Elt F) S1x2x256x64 .f32)), Σ' (L23 : List (View.Piece (Elt F) S1x2x256x64 .bf16)), Σ' (L24 : List (View.Piece (Elt F) S1x2x72x256 .bf16)), Σ' (L25 : List (View.Piece (Elt F) S1x2x256x64 .bf16)), Σ' (L26 : List (View.Piece (Elt F) S1x2x72x256 .bf16)), Σ' (L27 : List (View.Piece (Elt F) S1x32x256 .f32)), Σ' (L28 : List (View.Piece (Elt F) S1x8x256x64 .bf16)), Σ' (L29 : List (View.Piece (Elt F) S256x64 .bf16)), Σ' (L30 : List (View.Piece (Elt F) S1x72x256 .bf16)), Σ' (L31 : List (View.Piece (Elt F) S1x8x256x64 .bf16)), Σ' (L32 : List (View.Piece (Elt F) S256x64 .bf16)), Σ' (L33 : List (View.Piece (Elt F) S256x1024 .f32)), { L34 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ f, arg35.view.loc (c : Thread nD τ) ↦[arg35.view.set]{fullShare} arg35.view.writes (Elt F) f L33) ∗ (∃ f, arg36.view.loc (c : Thread nD τ) ↦[arg36.view.set]{fullShare} arg36.view.writes (Elt F) f L34)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, ?_, ?_, ?_, ?_, ?_, ?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34

end Cert.InIdeal.Run

end
-- ==== Proof.InOuts.lean ====
/- What the input projection's body leaves in each output's staging buffer, point by point. -/
module

public import proofs.«01_k».proof.Proof.InRun
public import Idealize.ShloMosaic.Lib.Claim

@[expose] public section

set_option maxRecDepth 16384

noncomputable section

namespace Cert.InIdeal.Run

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S256x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x768 .bf16) (harg5 : arg5.IsWhole) (arg6 : Memref sig .tc .vmem S1024x128 .bf16) (harg6 : arg6.IsWhole) (arg7 : Memref sig .tc .vmem S1024x512 .bf16) (harg7 : arg7.IsWhole) (arg8 : Memref sig .tc .vmem S1024x128 .bf16) (harg8 : arg8.IsWhole) (arg9 : Memref sig .tc .vmem S1024x512 .bf16) (harg9 : arg9.IsWhole) (arg10 : Memref sig .tc .vmem S1024x64 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S128x128 .bf16) (harg14 : arg14.IsWhole) (arg15 : Memref sig .tc .vmem S1x512 .f32) (harg15 : arg15.IsWhole) (arg16 : Memref sig .tc .vmem S1x128 .f32) (harg16 : arg16.IsWhole) (arg17 : Memref sig .tc .vmem S1x512 .f32) (harg17 : arg17.IsWhole) (arg18 : Memref sig .tc .vmem S1x128 .f32) (harg18 : arg18.IsWhole) (arg19 : Memref sig .tc .vmem S128x64 .bf16) (harg19 : arg19.IsWhole) (arg20 : Memref sig .tc .vmem S128x64 .bf16) (harg20 : arg20.IsWhole) (arg21 : Memref sig .tc .vmem S1x64 .f32) (harg21 : arg21.IsWhole) (arg22 : Memref sig .tc .vmem S1x8x256x64 .bf16) (harg22 : arg22.IsWhole) (arg23 : Memref sig .tc .vmem S1x2x256x64 .f32) (harg23 : arg23.IsWhole) (arg24 : Memref sig .tc .vmem S1x2x256x64 .f32) (harg24 : arg24.IsWhole) (arg25 : Memref sig .tc .vmem S1x2x256x64 .bf16) (harg25 : arg25.IsWhole) (arg26 : Memref sig .tc .vmem S1x2x72x256 .bf16) (harg26 : arg26.IsWhole) (arg27 : Memref sig .tc .vmem S1x2x256x64 .bf16) (harg27 : arg27.IsWhole) (arg28 : Memref sig .tc .vmem S1x2x72x256 .bf16) (harg28 : arg28.IsWhole) (arg29 : Memref sig .tc .vmem S1x32x256 .f32) (harg29 : arg29.IsWhole) (arg30 : Memref sig .tc .vmem S1x8x256x64 .bf16) (harg30 : arg30.IsWhole) (arg31 : Memref sig .tc .vmem S256x64 .bf16) (harg31 : arg31.IsWhole) (arg32 : Memref sig .tc .vmem S1x72x256 .bf16) (harg32 : arg32.IsWhole) (arg33 : Memref sig .tc .vmem S1x8x256x64 .bf16) (harg33 : arg33.IsWhole) (arg34 : Memref sig .tc .vmem S256x64 .bf16) (harg34 : arg34.IsWhole) (arg35 : Memref sig .tc .vmem S256x1024 .f32) (harg35 : arg35.IsWhole) (arg36 : Memref sig .tc .vmem S256x1024 .f32) (harg36 : arg36.IsWhole)
    (x0 : Vec F S256x1024 .f32) (x1 : Vec F S1x1024 .f32) (x2 : Vec F S1024x512 .bf16) (x3 : Vec F S1024x768 .bf16) (x4 : Vec F S1024x128 .bf16) (x5 : Vec F S1024x512 .bf16) (x6 : Vec F S1024x128 .bf16) (x7 : Vec F S1024x512 .bf16) (x8 : Vec F S1024x64 .bf16) (x9 : Vec F S1024x1024 .bf16) (x10 : Vec F S1024x1024 .bf16) (x11 : Vec F S512x512 .bf16) (x12 : Vec F S128x128 .bf16) (x13 : Vec F S1x512 .f32) (x14 : Vec F S1x128 .f32) (x15 : Vec F S1x512 .f32) (x16 : Vec F S1x128 .f32) (x17 : Vec F S128x64 .bf16) (x18 : Vec F S128x64 .bf16) (x19 : Vec F S1x64 .f32)

/-- Output 20's pieces cover its block. -/
theorem cover0_A_20 (y : S1x8x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).1 S1x1x256x64.size (by sl_kernel_rfl) y

/-- What the body leaves in output 20's staging buffer. -/
def out0_A_20 : Vec F S1x8x256x64 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).1)

/-- Output 21's pieces cover its block. -/
theorem cover0_A_21 (y : S1x2x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.1 S1x1x256x64.size (by sl_kernel_rfl) y

/-- What the body leaves in output 21's staging buffer. -/
def out0_A_21 : Vec F S1x2x256x64 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.1)

/-- Output 22's pieces cover its block. -/
theorem cover0_A_22 (y : S1x2x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.1 S1x1x256x64.size (by sl_kernel_rfl) y

/-- What the body leaves in output 22's staging buffer. -/
def out0_A_22 : Vec F S1x2x256x64 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.1)

/-- Output 23's pieces cover its block. -/
theorem cover0_A_23 (y : S1x2x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.1 S1x1x256x64.size (by sl_kernel_rfl) y

/-- What the body leaves in output 23's staging buffer. -/
def out0_A_23 : Vec F S1x2x256x64 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.1)

/-- Output 24's pieces cover its block. -/
theorem cover0_A_24 (y : S1x2x72x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.1 ![1, 1, 8, 256] (by sl_kernel_rfl) y

/-- What the body leaves in output 24's staging buffer. -/
def out0_A_24 : Vec F S1x2x72x256 .bf16 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.1)

/-- Output 25's pieces cover its block. -/
theorem cover0_A_25 (y : S1x2x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.1 S1x1x256x64.size (by sl_kernel_rfl) y

/-- What the body leaves in output 25's staging buffer. -/
def out0_A_25 : Vec F S1x2x256x64 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.1)

/-- Output 26's pieces cover its block. -/
theorem cover0_A_26 (y : S1x2x72x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.1 ![1, 1, 8, 256] (by sl_kernel_rfl) y

/-- What the body leaves in output 26's staging buffer. -/
def out0_A_26 : Vec F S1x2x72x256 .bf16 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.1)

/-- Output 27's pieces cover its block. -/
theorem cover0_A_27 (y : S1x32x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.1 S1x32x256.size (by sl_kernel_rfl) y

/-- What the body leaves in output 27's staging buffer. -/
def out0_A_27 : Vec F S1x32x256 .f32 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.1)

/-- Output 28's pieces cover its block. -/
theorem cover0_A_28 (y : S1x8x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.1 S1x1x256x64.size (by sl_kernel_rfl) y

/-- What the body leaves in output 28's staging buffer. -/
def out0_A_28 : Vec F S1x8x256x64 .bf16 :=
  VO0_28.read (Elt F) (VO0_28.writes (Elt F) VO0_28.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.1)

/-- Output 29's pieces cover its block. -/
theorem cover0_A_29 (y : S256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.1 S256x64.size (by sl_kernel_rfl) y

/-- What the body leaves in output 29's staging buffer. -/
def out0_A_29 : Vec F S256x64 .bf16 :=
  VO0_29.read (Elt F) (VO0_29.writes (Elt F) VO0_29.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.1)

/-- Output 30's pieces cover its block. -/
theorem cover0_A_30 (y : S1x72x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.1 ![1, 8, 256] (by sl_kernel_rfl) y

/-- What the body leaves in output 30's staging buffer. -/
def out0_A_30 : Vec F S1x72x256 .bf16 :=
  VO0_30.read (Elt F) (VO0_30.writes (Elt F) VO0_30.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.1)

/-- Output 31's pieces cover its block. -/
theorem cover0_A_31 (y : S1x8x256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.1 S1x1x256x64.size (by sl_kernel_rfl) y

/-- What the body leaves in output 31's staging buffer. -/
def out0_A_31 : Vec F S1x8x256x64 .bf16 :=
  VO0_31.read (Elt F) (VO0_31.writes (Elt F) VO0_31.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.1)

/-- Output 32's pieces cover its block. -/
theorem cover0_A_32 (y : S256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.1 S256x64.size (by sl_kernel_rfl) y

/-- What the body leaves in output 32's staging buffer. -/
def out0_A_32 : Vec F S256x64 .bf16 :=
  VO0_32.read (Elt F) (VO0_32.writes (Elt F) VO0_32.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.1)

/-- Output 33's pieces cover its block. -/
theorem cover0_A_33 (y : S256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.2.1 S256x1024.size (by sl_kernel_rfl) y

/-- What the body leaves in output 33's staging buffer. -/
def out0_A_33 : Vec F S256x1024 .f32 :=
  VO0_33.read (Elt F) (VO0_33.writes (Elt F) VO0_33.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.2.1)

/-- Output 34's pieces cover its block. -/
theorem cover0_A_34 (y : S256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.2.2.1 S256x1024.size (by sl_kernel_rfl) y

/-- What the body leaves in output 34's staging buffer. -/
def out0_A_34 : Vec F S256x1024 .f32 :=
  VO0_34.read (Elt F) (VO0_34.writes (Elt F) VO0_34.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 x0 x1 x2 x3 x4 x5 x6 x7 x8 x9 x10 x11 x12 x13 x14 x15 x16 x17 x18 x19).2.2.2.2.2.2.2.2.2.2.2.2.2.2.1)

end

/-! ## What the outputs hold after each point -/

/-- What the outputs' buffers hold after the body at point `t`, in window order: what its stores leave, from the point's input blocks. -/
def outsAt0 (c : Dev nD) (t : Fin cfg0.N) : Vec F S1x8x256x64 .bf16 × Vec F S1x2x256x64 .f32 × Vec F S1x2x256x64 .f32 × Vec F S1x2x256x64 .bf16 × Vec F S1x2x72x256 .bf16 × Vec F S1x2x256x64 .bf16 × Vec F S1x2x72x256 .bf16 × Vec F S1x32x256 .f32 × Vec F S1x8x256x64 .bf16 × Vec F S256x64 .bf16 × Vec F S1x72x256 .bf16 × Vec F S1x8x256x64 .bf16 × Vec F S256x64 .bf16 × Vec F S256x1024 .f32 × Vec F S256x1024 .f32 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_30 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_31 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_32 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_33 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-! ## The pipeline's proof data -/

/-- What the pipeline's proof says of each array: as found at the start, after the body at point `t` an input's buffer holds its
    block and an output's what `outsAt0` says, and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t).1
    | ⟨21, _⟩ => (outsAt0 m c t).2.1
    | ⟨22, _⟩ => (outsAt0 m c t).2.2.1
    | ⟨23, _⟩ => (outsAt0 m c t).2.2.2.1
    | ⟨24, _⟩ => (outsAt0 m c t).2.2.2.2.1
    | ⟨25, _⟩ => (outsAt0 m c t).2.2.2.2.2.1
    | ⟨26, _⟩ => (outsAt0 m c t).2.2.2.2.2.2.1
    | ⟨27, _⟩ => (outsAt0 m c t).2.2.2.2.2.2.2.1
    | ⟨28, _⟩ => (outsAt0 m c t).2.2.2.2.2.2.2.2.1
    | ⟨29, _⟩ => (outsAt0 m c t).2.2.2.2.2.2.2.2.2.1
    | ⟨30, _⟩ => (outsAt0 m c t).2.2.2.2.2.2.2.2.2.2.1
    | ⟨31, _⟩ => (outsAt0 m c t).2.2.2.2.2.2.2.2.2.2.2.1
    | ⟨32, _⟩ => (outsAt0 m c t).2.2.2.2.2.2.2.2.2.2.2.2.1
    | ⟨33, _⟩ => (outsAt0 m c t).2.2.2.2.2.2.2.2.2.2.2.2.2.1
    | ⟨34, _⟩ => (outsAt0 m c t).2.2.2.2.2.2.2.2.2.2.2.2.2.2
    | ⟨_ + 35, h⟩ => absurd h (Nat.not_lt.2 (Nat.le_add_left _ _))
  Φ _ := Pipeline.ΦA spec0 c
  q _ := fullShare
  owed _ := 0

/-- Every array starts as the pipeline finds it. -/
theorem A_eq (c : Dev nD) (w : Fin cfg0.W) : (dats m 0 c).A w = V m c (Pipeline.arrRef spec0 w) := by
  dsimp only [dats]

/-- What the body leaves in an input's buffer: its block. -/
theorem after0_0 (c : Dev nD) (t : Fin cfg0.N) : (dats m 0 c).after 0 t = iblk m c 0 t := by dsimp only [dats]
/-- What the body leaves in window 1's buffer: its block. -/
theorem after0_1 (c : Dev nD) (t : Fin cfg0.N) : (dats m 0 c).after 1 t = iblk m c 1 t := by dsimp only [dats]
/-- What the body leaves in window 2's buffer: its block. -/
theorem after0_2 (c : Dev nD) (t : Fin cfg0.N) : (dats m 0 c).after 2 t = iblk m c 2 t := by dsimp only [dats]
/-- What the body leaves in window 3's buffer: its block. -/
theorem after0_3 (c : Dev nD) (t : Fin cfg0.N) : (dats m 0 c).after 3 t = iblk m c 3 t := by dsimp only [dats]
/-- What the body leaves in window 4's buffer: its block. -/
theorem after0_4 (c : Dev nD) (t : Fin cfg0.N) : (dats m 0 c).after 4 t = iblk m c 4 t := by dsimp only [dats]
/-- What the body leaves in window 5's buffer: its block. -/
theorem after0_5 (c : Dev nD) (t : Fin cfg0.N) : (dats m 0 c).after 5 t = iblk m c 5 t := by dsimp only [dats]
/-- What the body leaves in window 6's buffer: its block. -/
theorem after0_6 (c : Dev nD) (t : Fin cfg0.N) : (dats m 0 c).after 6 t = iblk m c 6 t := by dsimp only [dats]
/-- What the body leaves in window 7's buffer: its block. -/
theorem after0_7 (c : Dev nD) (t : Fin cfg0.N) : (dats m 0 c).after 7 t = iblk m c 7 t := by dsimp only [dats]
/-- What the body leaves in window 8's buffer: its block. -/
theorem after0_8 (c : Dev nD) (t : Fin cfg0.N) : (dats m 0 c).after 8 t = iblk m c 8 t := by dsimp only [dats]
/-- What the body leaves in window 9's buffer: its block. -/
theorem after0_9 (c : Dev nD) (t : Fin cfg0.N) : (dats m 0 c).after 9 t = iblk m c 9 t := by dsimp only [dats]
/-- What the body leaves in window 10's buffer: its block. -/
theorem after0_10 (c : Dev nD) (t : Fin cfg0.N) : (dats m 0 c).after 10 t = iblk m c 10 t := by dsimp only [dats]
/-- What the body leaves in window 11's buffer: its block. -/
theorem after0_11 (c : Dev nD) (t : Fin cfg0.N) : (dats m 0 c).after 11 t = iblk m c 11 t := by dsimp only [dats]
/-- What the body leaves in window 12's buffer: its block. -/
theorem after0_12 (c : Dev nD) (t : Fin cfg0.N) : (dats m 0 c).after 12 t = iblk m c 12 t := by dsimp only [dats]
/-- What the body leaves in window 13's buffer: its block. -/
theorem after0_13 (c : Dev nD) (t : Fin cfg0.N) : (dats m 0 c).after 13 t = iblk m c 13 t := by dsimp only [dats]
/-- What the body leaves in window 14's buffer: its block. -/
theorem after0_14 (c : Dev nD) (t : Fin cfg0.N) : (dats m 0 c).after 14 t = iblk m c 14 t := by dsimp only [dats]
/-- What the body leaves in window 15's buffer: its block. -/
theorem after0_15 (c : Dev nD) (t : Fin cfg0.N) : (dats m 0 c).after 15 t = iblk m c 15 t := by dsimp only [dats]
/-- What the body leaves in window 16's buffer: its block. -/
theorem after0_16 (c : Dev nD) (t : Fin cfg0.N) : (dats m 0 c).after 16 t = iblk m c 16 t := by dsimp only [dats]
/-- What the body leaves in window 17's buffer: its block. -/
theorem after0_17 (c : Dev nD) (t : Fin cfg0.N) : (dats m 0 c).after 17 t = iblk m c 17 t := by dsimp only [dats]
/-- What the body leaves in window 18's buffer: its block. -/
theorem after0_18 (c : Dev nD) (t : Fin cfg0.N) : (dats m 0 c).after 18 t = iblk m c 18 t := by dsimp only [dats]
/-- What the body leaves in window 19's buffer: its block. -/
theorem after0_19 (c : Dev nD) (t : Fin cfg0.N) : (dats m 0 c).after 19 t = iblk m c 19 t := by dsimp only [dats]
/-- What the body leaves in window 20's buffer: what its stores leave. -/
theorem after0_20 (c : Dev nD) (t : Fin cfg0.N) : (dats m 0 c).after 20 t = (outsAt0 m c t).1 := by dsimp only [dats]
/-- What the body leaves in window 21's buffer: what its stores leave. -/
theorem after0_21 (c : Dev nD) (t : Fin cfg0.N) : (dats m 0 c).after 21 t = (outsAt0 m c t).2.1 := by dsimp only [dats]
/-- What the body leaves in window 22's buffer: what its stores leave. -/
theorem after0_22 (c : Dev nD) (t : Fin cfg0.N) : (dats m 0 c).after 22 t = (outsAt0 m c t).2.2.1 := by dsimp only [dats]
/-- What the body leaves in window 23's buffer: what its stores leave. -/
theorem after0_23 (c : Dev nD) (t : Fin cfg0.N) : (dats m 0 c).after 23 t = (outsAt0 m c t).2.2.2.1 := by dsimp only [dats]
/-- What the body leaves in window 24's buffer: what its stores leave. -/
theorem after0_24 (c : Dev nD) (t : Fin cfg0.N) : (dats m 0 c).after 24 t = (outsAt0 m c t).2.2.2.2.1 := by dsimp only [dats]
/-- What the body leaves in window 25's buffer: what its stores leave. -/
theorem after0_25 (c : Dev nD) (t : Fin cfg0.N) : (dats m 0 c).after 25 t = (outsAt0 m c t).2.2.2.2.2.1 := by dsimp only [dats]
/-- What the body leaves in window 26's buffer: what its stores leave. -/
theorem after0_26 (c : Dev nD) (t : Fin cfg0.N) : (dats m 0 c).after 26 t = (outsAt0 m c t).2.2.2.2.2.2.1 := by dsimp only [dats]
/-- What the body leaves in window 27's buffer: what its stores leave. -/
theorem after0_27 (c : Dev nD) (t : Fin cfg0.N) : (dats m 0 c).after 27 t = (outsAt0 m c t).2.2.2.2.2.2.2.1 := by dsimp only [dats]
/-- What the body leaves in window 28's buffer: what its stores leave. -/
theorem after0_28 (c : Dev nD) (t : Fin cfg0.N) : (dats m 0 c).after 28 t = (outsAt0 m c t).2.2.2.2.2.2.2.2.1 := by dsimp only [dats]
/-- What the body leaves in window 29's buffer: what its stores leave. -/
theorem after0_29 (c : Dev nD) (t : Fin cfg0.N) : (dats m 0 c).after 29 t = (outsAt0 m c t).2.2.2.2.2.2.2.2.2.1 := by dsimp only [dats]
/-- What the body leaves in window 30's buffer: what its stores leave. -/
theorem after0_30 (c : Dev nD) (t : Fin cfg0.N) : (dats m 0 c).after 30 t = (outsAt0 m c t).2.2.2.2.2.2.2.2.2.2.1 := by dsimp only [dats]
/-- What the body leaves in window 31's buffer: what its stores leave. -/
theorem after0_31 (c : Dev nD) (t : Fin cfg0.N) : (dats m 0 c).after 31 t = (outsAt0 m c t).2.2.2.2.2.2.2.2.2.2.2.1 := by dsimp only [dats]
/-- What the body leaves in window 32's buffer: what its stores leave. -/
theorem after0_32 (c : Dev nD) (t : Fin cfg0.N) : (dats m 0 c).after 32 t = (outsAt0 m c t).2.2.2.2.2.2.2.2.2.2.2.2.1 := by dsimp only [dats]
/-- What the body leaves in window 33's buffer: what its stores leave. -/
theorem after0_33 (c : Dev nD) (t : Fin cfg0.N) : (dats m 0 c).after 33 t = (outsAt0 m c t).2.2.2.2.2.2.2.2.2.2.2.2.2.1 := by dsimp only [dats]
/-- What the body leaves in window 34's buffer: what its stores leave. -/
theorem after0_34 (c : Dev nD) (t : Fin cfg0.N) : (dats m 0 c).after 34 t = (outsAt0 m c t).2.2.2.2.2.2.2.2.2.2.2.2.2.2 := by dsimp only [dats]

/-- An input's buffer holds its block before the body, at every point. -/
theorem before0_0 (c : Dev nD) (t : Fin cfg0.N) (d) : (dats m 0 c).before 0 t d = iblk m c 0 t :=
  before0_0_of m (dats m 0 c) (A_eq m c 0) (after0_0 m c) t d
/-- Window 1's buffer holds its block before the body. -/
theorem before0_1 (c : Dev nD) (t : Fin cfg0.N) (d) : (dats m 0 c).before 1 t d = iblk m c 1 t :=
  before0_1_of m (dats m 0 c) (A_eq m c 1) (after0_1 m c) t d
/-- Window 2's buffer holds its block before the body. -/
theorem before0_2 (c : Dev nD) (t : Fin cfg0.N) (d) : (dats m 0 c).before 2 t d = iblk m c 2 t :=
  before0_2_of m (dats m 0 c) (A_eq m c 2) (after0_2 m c) t d
/-- Window 3's buffer holds its block before the body. -/
theorem before0_3 (c : Dev nD) (t : Fin cfg0.N) (d) : (dats m 0 c).before 3 t d = iblk m c 3 t :=
  before0_3_of m (dats m 0 c) (A_eq m c 3) (after0_3 m c) t d
/-- Window 4's buffer holds its block before the body. -/
theorem before0_4 (c : Dev nD) (t : Fin cfg0.N) (d) : (dats m 0 c).before 4 t d = iblk m c 4 t :=
  before0_4_of m (dats m 0 c) (A_eq m c 4) (after0_4 m c) t d
/-- Window 5's buffer holds its block before the body. -/
theorem before0_5 (c : Dev nD) (t : Fin cfg0.N) (d) : (dats m 0 c).before 5 t d = iblk m c 5 t :=
  before0_5_of m (dats m 0 c) (A_eq m c 5) (after0_5 m c) t d
/-- Window 6's buffer holds its block before the body. -/
theorem before0_6 (c : Dev nD) (t : Fin cfg0.N) (d) : (dats m 0 c).before 6 t d = iblk m c 6 t :=
  before0_6_of m (dats m 0 c) (A_eq m c 6) (after0_6 m c) t d
/-- Window 7's buffer holds its block before the body. -/
theorem before0_7 (c : Dev nD) (t : Fin cfg0.N) (d) : (dats m 0 c).before 7 t d = iblk m c 7 t :=
  before0_7_of m (dats m 0 c) (A_eq m c 7) (after0_7 m c) t d
/-- Window 8's buffer holds its block before the body. -/
theorem before0_8 (c : Dev nD) (t : Fin cfg0.N) (d) : (dats m 0 c).before 8 t d = iblk m c 8 t :=
  before0_8_of m (dats m 0 c) (A_eq m c 8) (after0_8 m c) t d
/-- Window 9's buffer holds its block before the body. -/
theorem before0_9 (c : Dev nD) (t : Fin cfg0.N) (d) : (dats m 0 c).before 9 t d = iblk m c 9 t :=
  before0_9_of m (dats m 0 c) (A_eq m c 9) (after0_9 m c) t d
/-- Window 10's buffer holds its block before the body. -/
theorem before0_10 (c : Dev nD) (t : Fin cfg0.N) (d) : (dats m 0 c).before 10 t d = iblk m c 10 t :=
  before0_10_of m (dats m 0 c) (A_eq m c 10) (after0_10 m c) t d
/-- Window 11's buffer holds its block before the body. -/
theorem before0_11 (c : Dev nD) (t : Fin cfg0.N) (d) : (dats m 0 c).before 11 t d = iblk m c 11 t :=
  before0_11_of m (dats m 0 c) (A_eq m c 11) (after0_11 m c) t d
/-- Window 12's buffer holds its block before the body. -/
theorem before0_12 (c : Dev nD) (t : Fin cfg0.N) (d) : (dats m 0 c).before 12 t d = iblk m c 12 t :=
  before0_12_of m (dats m 0 c) (A_eq m c 12) (after0_12 m c) t d
/-- Window 13's buffer holds its block before the body. -/
theorem before0_13 (c : Dev nD) (t : Fin cfg0.N) (d) : (dats m 0 c).before 13 t d = iblk m c 13 t :=
  before0_13_of m (dats m 0 c) (A_eq m c 13) (after0_13 m c) t d
/-- Window 14's buffer holds its block before the body. -/
theorem before0_14 (c : Dev nD) (t : Fin cfg0.N) (d) : (dats m 0 c).before 14 t d = iblk m c 14 t :=
  before0_14_of m (dats m 0 c) (A_eq m c 14) (after0_14 m c) t d
/-- Window 15's buffer holds its block before the body. -/
theorem before0_15 (c : Dev nD) (t : Fin cfg0.N) (d) : (dats m 0 c).before 15 t d = iblk m c 15 t :=
  before0_15_of m (dats m 0 c) (A_eq m c 15) (after0_15 m c) t d
/-- Window 16's buffer holds its block before the body. -/
theorem before0_16 (c : Dev nD) (t : Fin cfg0.N) (d) : (dats m 0 c).before 16 t d = iblk m c 16 t :=
  before0_16_of m (dats m 0 c) (A_eq m c 16) (after0_16 m c) t d
/-- Window 17's buffer holds its block before the body. -/
theorem before0_17 (c : Dev nD) (t : Fin cfg0.N) (d) : (dats m 0 c).before 17 t d = iblk m c 17 t :=
  before0_17_of m (dats m 0 c) (A_eq m c 17) (after0_17 m c) t d
/-- Window 18's buffer holds its block before the body. -/
theorem before0_18 (c : Dev nD) (t : Fin cfg0.N) (d) : (dats m 0 c).before 18 t d = iblk m c 18 t :=
  before0_18_of m (dats m 0 c) (A_eq m c 18) (after0_18 m c) t d
/-- Window 19's buffer holds its block before the body. -/
theorem before0_19 (c : Dev nD) (t : Fin cfg0.N) (d) : (dats m 0 c).before 19 t d = iblk m c 19 t :=
  before0_19_of m (dats m 0 c) (A_eq m c 19) (after0_19 m c) t d

end Cert.InIdeal.Run

end
-- ==== Proof.InFrame.lean ====
/- The input projection's body at any grid point: from the input blocks to the output blocks. -/
module

public import proofs.«01_k».proof.Proof.InOuts
public import Idealize.ShloMosaic.Lib.Claim

@[expose] public section

set_option maxRecDepth 16384

noncomputable section

namespace Cert.InIdeal.Run

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d)))

/-- What the body returns at point `t`, the windows one by one. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t))

set_option maxHeartbeats 3200000 in
/-- The body at any point: from every input's block it leaves in each output's buffer what its stores say, and nothing else changes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34]
  unfold outsAt0
  unfold out0_A_20 out0_A_21 out0_A_22 out0_A_23 out0_A_24 out0_A_25 out0_A_26 out0_A_27 out0_A_28 out0_A_29 out0_A_30 out0_A_31 out0_A_32 out0_A_33 out0_A_34; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H26]
  · unfold owns; iexists _; isplitr
    swap; · iexact H26
    ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H27]
  · unfold owns; iexists _; isplitr
    swap; · iexact H27
    ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H28]
  · unfold owns; iexists _; isplitr
    swap; · iexact H28
    ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H29]
  · unfold owns; iexists _; isplitr
    swap; · iexact H29
    ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H30]
  · unfold owns; iexists _; isplitr
    swap; · iexact H30
    ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H31]
  · unfold owns; iexists _; isplitr
    swap; · iexact H31
    ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H32]
  · unfold owns; iexists _; isplitr
    swap; · iexact H32
    ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H34
  ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.InIdeal.Run

end
-- ==== Proof.InLaunch.lean ====
/- The input projection's run: every array's end contents, the arguments unchanged, the counters at zero. -/
module

public import proofs.«01_k».proof.Proof.InFrame
public import Idealize.ShloMosaic.Lib.Claim

@[expose] public section

set_option maxRecDepth 16384

noncomputable section

namespace Cert.InIdeal.Run

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body called at point `t` is the body at that point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body keeps the pipeline's contract at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run ends with every array at its named contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run ends with every array at its named contents. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The arguments end as they were and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The whole run: the results compared end at their named contents, the arguments as they were. -/
theorem run_blocks : θ_run defs (onTc (τ := τ) (main (F := F))) ⟨m, fun _ => 0, ρ⟩ (fun r => ∀ c : Dev nD,
      r.2.mem ((c : Thread nD τ).loc main_v63_1) = (dats m 0 c).arrAt 21 cfg0.N
      ∧ r.2.mem ((c : Thread nD τ).loc main_v63_2) = (dats m 0 c).arrAt 22 cfg0.N
      ∧ r.2.mem ((c : Thread nD τ).loc main_v63_11) = (dats m 0 c).arrAt 31 cfg0.N
      ∧ r.2.mem ((c : Thread nD τ).loc main_v63_12) = (dats m 0 c).arrAt 32 cfg0.N
      ∧ r.2.mem ((c : Thread nD τ).loc main_v63_13) = (dats m 0 c).arrAt 33 cfg0.N
      ∧ r.2.mem ((c : Thread nD τ).loc main_v63_14) = (dats m 0 c).arrAt 34 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun r h c => ⟨(h c).1 21,
      (h c).1 22,
      (h c).1 31,
      (h c).1 32,
      (h c).1 33,
      (h c).1 34,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.InIdeal.Run

end
-- ==== Proof.InTile.lean ====
/- The input projection's tiles: what the body computes for the results compared, index by index. -/
module

public import proofs.«01_k».proof.Proof.Gen.InIdeal.Skeleton
public import Idealize.ShloMosaic.Lib.Pipeline.ValueKit

@[expose] public section

set_option maxRecDepth 16384

noncomputable section

namespace Cert.InIdeal.Proj

open Cert.InIdeal.Gen
open Idealize.ShloMosaic.Tactic
open Idealize.ShloMosaic Idealize.ShloMosaic.TcCoe Idealize.SL.Sem

/-- A row's entry divided by the root of the row's mean square, times the gain. -/
def normed (r : Fin 1024 → EReal) (g : EReal) (q : Fin 1024) : EReal :=
  r q * Ideal.rsqrt (Ideal.div (∑ k : Fin 1024, r k * r k) (Ideal.ofBits FTy.f32 0x44800000#32) + Ideal.ofBits FTy.f32 0x358637BD#32) * g

/-- The row of the batch a token lies in. -/
def seqOf (n : Fin 65536) : Fin 8 := ⟨n.val / 8192, by omega⟩

/-- A token's place in its row. -/
def posOf (n : Fin 65536) : Fin 8192 := ⟨n.val % 8192, by omega⟩

/-- A token's normed row times a column of the projection's matrix. -/
def projAt (x : Vec Ideal S8x8192x1024 .f32) (gn : Vec Ideal S1024 .f32) (w : Vec Ideal S1024x4576 .f32) (b : Fin 8) (s : Fin 8192) (j : Fin 4576) : EReal :=
  ∑ k : Fin 1024, normed (fun q => (x (ix3 b s q) : EReal)) (gn (ix1 k)) k * (w (ix2 k j) : EReal)

/-- The compressed keys, by head. -/
def keys (x : Vec Ideal S8x8192x1024 .f32) (gn : Vec Ideal S1024 .f32) (w : Vec Ideal S1024x4576 .f32) : Vec Ideal S8x2x8192x64 .f32 :=
  fun i => projAt x gn w (i 0) (i 2) ⟨512 + ((i 1).val * 64 + (i 3).val), by have h1 : (i 1).val < 2 := (i 1).isLt; have h3 : (i 3).val < 64 := (i 3).isLt; omega⟩

/-- The compressed values, by head. -/
def vals (x : Vec Ideal S8x8192x1024 .f32) (gn : Vec Ideal S1024 .f32) (w : Vec Ideal S1024x4576 .f32) : Vec Ideal S8x2x8192x64 .f32 :=
  fun i => projAt x gn w (i 0) (i 2) ⟨640 + ((i 1).val * 64 + (i 3).val), by have h1 : (i 1).val < 2 := (i 1).isLt; have h3 : (i 3).val < 64 := (i 3).isLt; omega⟩

/-- The index queries, by head. -/
def idxQ (x : Vec Ideal S8x8192x1024 .f32) (gn : Vec Ideal S1024 .f32) (w : Vec Ideal S1024x4576 .f32) : Vec Ideal S8x8x8192x64 .bf16 :=
  fun i => projAt x gn w (i 0) (i 2) ⟨1944 + ((i 1).val * 64 + (i 3).val), by have h1 : (i 1).val < 8 := (i 1).isLt; have h3 : (i 3).val < 64 := (i 3).isLt; omega⟩

/-- The index keys. -/
def idxK (x : Vec Ideal S8x8192x1024 .f32) (gn : Vec Ideal S1024 .f32) (w : Vec Ideal S1024x4576 .f32) : Vec Ideal S65536x64 .bf16 :=
  fun i => projAt x gn w (seqOf (i 0)) (posOf (i 0)) ⟨2456 + (i 1).val, by have h1 : (i 1).val < 64 := (i 1).isLt; omega⟩

/-- The first branch's gates. -/
def gateA (x : Vec Ideal S8x8192x1024 .f32) (gn : Vec Ideal S1024 .f32) (w : Vec Ideal S1024x4576 .f32) : Vec Ideal S65536x1024 .f32 :=
  fun i => Ideal.logistic (projAt x gn w (seqOf (i 0)) (posOf (i 0)) ⟨2528 + (i 1).val, by have h1 : (i 1).val < 1024 := (i 1).isLt; omega⟩)

/-- The second branch's gates. -/
def gateB (x : Vec Ideal S8x8192x1024 .f32) (gn : Vec Ideal S1024 .f32) (w : Vec Ideal S1024x4576 .f32) : Vec Ideal S65536x1024 .f32 :=
  fun i => Ideal.logistic (projAt x gn w (seqOf (i 0)) (posOf (i 0)) ⟨3552 + (i 1).val, by have h1 : (i 1).val < 1024 := (i 1).isLt; omega⟩)

/-- The body's normed row at an index of its tile. -/
theorem pay5_at (v0 : Vec Ideal S256x1024 .f32) (v2 : Vec Ideal S1x1024 .f32) (a : Fin 256) (q : Fin 1024) :
    (k0_pay5 v0 v2 (ix2 a q) : EReal) = normed (fun k => (v0 (ix2 a k) : EReal)) (v2 (ix2 (0 : Fin 1) q)) q := by
  pointwise [k0_pay5]
  rfl

/-- The index key's product at an index of its tile. -/
theorem pay2_at (h : FVec Ideal S256x1024 .bf16) (w : Vec Ideal S1024x64 .bf16) (a : Fin 256) (d : Fin 64) :
    (k0_pay2 h w (ix2 a d) : EReal) = ∑ k : Fin 1024, (h (ix2 a k) : EReal) * (w (ix2 k d) : EReal) := by
  pointwise [k0_pay2]

/-- The first gate at an index of its tile. -/
theorem pay3_at (h : FVec Ideal S256x1024 .bf16) (w : Vec Ideal S1024x1024 .bf16) (a : Fin 256) (q : Fin 1024) :
    (k0_pay3 h w (ix2 a q) : EReal) = Ideal.logistic (∑ k : Fin 1024, (h (ix2 a k) : EReal) * (w (ix2 k q) : EReal)) := by
  pointwise [k0_pay3]

/-- The second gate at an index of its tile. -/
theorem pay4_at (h : FVec Ideal S256x1024 .bf16) (w : Vec Ideal S1024x1024 .bf16) (a : Fin 256) (q : Fin 1024) :
    (k0_pay4 h w (ix2 a q) : EReal) = Ideal.logistic (∑ k : Fin 1024, (h (ix2 a k) : EReal) * (w (ix2 k q) : EReal)) := by
  pointwise [k0_pay4]

/-- The keys' and values' product at an index of its tile. -/
theorem pay21_at (h : FVec Ideal S256x1024 .bf16) (w : Vec Ideal S1024x768 .bf16) (a : Fin 256) (j : Fin 768) :
    (k0_pay21 h w (ix2 a j) : EReal) = ∑ k : Fin 1024, (h (ix2 a k) : EReal) * (w (ix2 k j) : EReal) := by
  pointwise [k0_pay21]

/-- The index queries' product at an index of its tile. -/
theorem pay68_at (h : FVec Ideal S256x1024 .bf16) (w : Vec Ideal S1024x512 .bf16) (a : Fin 256) (j : Fin 512) :
    (k0_pay68 h w (ix2 a j) : EReal) = ∑ k : Fin 1024, (h (ix2 a k) : EReal) * (w (ix2 k j) : EReal) := by
  pointwise [k0_pay68]

/-- The first head of the compressed keys, as stored. -/
theorem pay23_at (h : FVec Ideal S256x1024 .bf16) (w : Vec Ideal S1024x768 .bf16) (a : Fin 256) (d : Fin 64) :
    (k0_pay23 h w (ix4 (0 : Fin 1) (0 : Fin 1) a d) : EReal) = (k0_pay21 h w (ix2 a (⟨0 + d.val, by omega⟩ : Fin 768)) : EReal) := by
  unfold k0_pay23 k0_pay22
  generalize k0_pay21 h w = A
  pointwise

/-- The second head of the compressed keys, as stored. -/
theorem pay24_at (h : FVec Ideal S256x1024 .bf16) (w : Vec Ideal S1024x768 .bf16) (a : Fin 256) (d : Fin 64) :
    (k0_pay24 h w (ix4 (0 : Fin 1) (0 : Fin 1) a d) : EReal) = (k0_pay21 h w (ix2 a (⟨64 + d.val, by omega⟩ : Fin 768)) : EReal) := by
  unfold k0_pay24 k0_pay22
  generalize k0_pay21 h w = A
  pointwise

/-- The first head of the compressed values, as stored. -/
theorem pay27_at (h : FVec Ideal S256x1024 .bf16) (w : Vec Ideal S1024x768 .bf16) (a : Fin 256) (d : Fin 64) :
    (k0_pay27 (k0_pay26 h w) (ix4 (0 : Fin 1) (0 : Fin 1) a d) : EReal) = (k0_pay21 h w (ix2 a (⟨128 + d.val, by omega⟩ : Fin 768)) : EReal) := by
  unfold k0_pay27 k0_pay26 k0_pay25
  generalize k0_pay21 h w = A
  pointwise

/-- The second head of the compressed values, as stored. -/
theorem pay28_at (h : FVec Ideal S256x1024 .bf16) (w : Vec Ideal S1024x768 .bf16) (a : Fin 256) (d : Fin 64) :
    (k0_pay28 (k0_pay25 h w) (ix4 (0 : Fin 1) (0 : Fin 1) a d) : EReal) = (k0_pay21 h w (ix2 a (⟨192 + d.val, by omega⟩ : Fin 768)) : EReal) := by
  unfold k0_pay28 k0_pay25
  generalize k0_pay21 h w = A
  pointwise
  exact congrArg (fun j => (A (ix2 a j) : EReal)) (Fin.ext (by show 128 + (64 + d.val) = 192 + d.val; omega))

/-- Head 0 of the index queries, as stored. -/
theorem pay69_at (h : FVec Ideal S256x1024 .bf16) (w : Vec Ideal S1024x512 .bf16) (a : Fin 256) (d : Fin 64) :
    (k0_pay69 h w (ix4 (0 : Fin 1) (0 : Fin 1) a d) : EReal) = (k0_pay68 h w (ix2 a (⟨0 + d.val, by omega⟩ : Fin 512)) : EReal) := by
  unfold k0_pay69
  generalize k0_pay68 h w = A
  pointwise

/-- Head 1 of the index queries, as stored. -/
theorem pay71_at (h : FVec Ideal S256x1024 .bf16) (w : Vec Ideal S1024x512 .bf16) (a : Fin 256) (d : Fin 64) :
    (k0_pay71 (k0_pay70 h w) (ix4 (0 : Fin 1) (0 : Fin 1) a d) : EReal) = (k0_pay68 h w (ix2 a (⟨64 + d.val, by omega⟩ : Fin 512)) : EReal) := by
  unfold k0_pay71 k0_pay70
  generalize k0_pay68 h w = A
  pointwise

/-- Head 2 of the index queries, as stored. -/
theorem pay72_at (h : FVec Ideal S256x1024 .bf16) (w : Vec Ideal S1024x512 .bf16) (a : Fin 256) (d : Fin 64) :
    (k0_pay72 (k0_pay68 h w) (ix4 (0 : Fin 1) (0 : Fin 1) a d) : EReal) = (k0_pay68 h w (ix2 a (⟨128 + d.val, by omega⟩ : Fin 512)) : EReal) := by
  unfold k0_pay72
  generalize k0_pay68 h w = A
  pointwise

/-- Head 3 of the index queries, as stored. -/
theorem pay73_at (h : FVec Ideal S256x1024 .bf16) (w : Vec Ideal S1024x512 .bf16) (a : Fin 256) (d : Fin 64) :
    (k0_pay73 (k0_pay68 h w) (ix4 (0 : Fin 1) (0 : Fin 1) a d) : EReal) = (k0_pay68 h w (ix2 a (⟨192 + d.val, by omega⟩ : Fin 512)) : EReal) := by
  unfold k0_pay73
  generalize k0_pay68 h w = A
  pointwise

/-- Head 4 of the index queries, as stored. -/
theorem pay74_at (h : FVec Ideal S256x1024 .bf16) (w : Vec Ideal S1024x512 .bf16) (a : Fin 256) (d : Fin 64) :
    (k0_pay74 (k0_pay68 h w) (ix4 (0 : Fin 1) (0 : Fin 1) a d) : EReal) = (k0_pay68 h w (ix2 a (⟨256 + d.val, by omega⟩ : Fin 512)) : EReal) := by
  unfold k0_pay74
  generalize k0_pay68 h w = A
  pointwise

/-- Head 5 of the index queries, as stored. -/
theorem pay75_at (h : FVec Ideal S256x1024 .bf16) (w : Vec Ideal S1024x512 .bf16) (a : Fin 256) (d : Fin 64) :
    (k0_pay75 (k0_pay68 h w) (ix4 (0 : Fin 1) (0 : Fin 1) a d) : EReal) = (k0_pay68 h w (ix2 a (⟨320 + d.val, by omega⟩ : Fin 512)) : EReal) := by
  unfold k0_pay75
  generalize k0_pay68 h w = A
  pointwise

/-- Head 6 of the index queries, as stored. -/
theorem pay76_at (h : FVec Ideal S256x1024 .bf16) (w : Vec Ideal S1024x512 .bf16) (a : Fin 256) (d : Fin 64) :
    (k0_pay76 (k0_pay68 h w) (ix4 (0 : Fin 1) (0 : Fin 1) a d) : EReal) = (k0_pay68 h w (ix2 a (⟨384 + d.val, by omega⟩ : Fin 512)) : EReal) := by
  unfold k0_pay76
  generalize k0_pay68 h w = A
  pointwise

/-- Head 7 of the index queries, as stored. -/
theorem pay1_at (h : FVec Ideal S256x1024 .bf16) (w : Vec Ideal S1024x512 .bf16) (a : Fin 256) (d : Fin 64) :
    (k0_pay1 (k0_pay77 (k0_pay68 h w)) (ix4 (0 : Fin 1) (0 : Fin 1) a d) : EReal) = (k0_pay68 h w (ix2 a (⟨448 + d.val, by omega⟩ : Fin 512)) : EReal) := by
  unfold k0_pay1 k0_pay77
  generalize k0_pay68 h w = A
  pointwise

end Cert.InIdeal.Proj

end
-- ==== Proof.InOper.lean ====
/- The input projection's operands: what the pipeline finds in the arrays it reads, and each point's blocks of them. -/
module

public import proofs.«01_k».proof.Proof.InTile
public import proofs.«01_k».proof.Proof.Gen.InIdeal.Frame.Runs
public import Idealize.ShloMosaic.Lib.Pipeline.ValueKit
public import Idealize.ShloMosaic.Lib.StableHlo.ReadAt

@[expose] public section

set_option maxRecDepth 16384

noncomputable section

namespace Cert.InIdeal.Proj

open Cert.InIdeal.Gen
open Idealize.ShloMosaic.Tactic
open Idealize.ShloMosaic Idealize.ShloMosaic.TcCoe Idealize.SL.Sem

variable (m : (ℓ : Loc nD τ sig) → Buf (Elt Ideal) ℓ)

/-- The rows the pipeline finds: one per token. -/
theorem x_at (c : Dev nD) (n : Fin 65536) (q : Fin 1024) :
    (V m c main_v0 (ix2 n q) : EReal) = m ((c : Thread nD τ).loc main_arg0) (ix3 (seqOf n) (posOf n) q) := by
  simp only [V, hostOps0, List.flatten_cons, List.flatten_nil, List.append_nil, List.cons_append, List.nil_append]
  entry_read
  pointwise
  rfl

/-- The gain the pipeline finds. -/
theorem gn_at (c : Dev nD) (q : Fin 1024) : (V m c main_v28 (ix2 (0 : Fin 1) q) : EReal) = m ((c : Thread nD τ).loc main_arg1) (ix1 q) := by
  simp only [V, hostOps0, List.flatten_cons, List.flatten_nil, List.append_nil, List.cons_append, List.nil_append]
  entry_read
  pointwise

/-- The index queries' columns, as the pipeline finds them. -/
theorem wiq_at (c : Dev nD) (k : Fin 1024) (j : Fin 512) :
    (V m c main_v24 (ix2 k j) : EReal) = m ((c : Thread nD τ).loc main_arg2) (ix2 k (⟨1944 + j.val, by omega⟩ : Fin 4576)) := by
  simp only [V, hostOps0, List.flatten_cons, List.flatten_nil, List.append_nil, List.cons_append, List.nil_append]
  entry_read
  pointwise

/-- The index keys' columns, as the pipeline finds them. -/
theorem wik_at (c : Dev nD) (k : Fin 1024) (j : Fin 64) :
    (V m c main_v25 (ix2 k j) : EReal) = m ((c : Thread nD τ).loc main_arg2) (ix2 k (⟨2456 + j.val, by omega⟩ : Fin 4576)) := by
  simp only [V, hostOps0, List.flatten_cons, List.flatten_nil, List.append_nil, List.cons_append, List.nil_append]
  entry_read
  pointwise

/-- The first gates' columns, as the pipeline finds them. -/
theorem wga_at (c : Dev nD) (k : Fin 1024) (j : Fin 1024) :
    (V m c main_v26 (ix2 k j) : EReal) = m ((c : Thread nD τ).loc main_arg2) (ix2 k (⟨2528 + j.val, by omega⟩ : Fin 4576)) := by
  simp only [V, hostOps0, List.flatten_cons, List.flatten_nil, List.append_nil, List.cons_append, List.nil_append]
  entry_read
  pointwise

/-- The second gates' columns, as the pipeline finds them. -/
theorem wgb_at (c : Dev nD) (k : Fin 1024) (j : Fin 1024) :
    (V m c main_v27 (ix2 k j) : EReal) = m ((c : Thread nD τ).loc main_arg2) (ix2 k (⟨3552 + j.val, by omega⟩ : Fin 4576)) := by
  simp only [V, hostOps0, List.flatten_cons, List.flatten_nil, List.append_nil, List.cons_append, List.nil_append]
  entry_read
  pointwise

/-- The keys' columns, as the line cuts them. -/
theorem keys_at (c : Dev nD) (k : Fin 1024) (q : Fin 128) :
    (StableHlo.upto hostOps0 (fun b => m (c, b)) 17 (Proc.devRef .tc main_v2) (ix2 k q) : EReal) = m ((c : Thread nD τ).loc main_arg2) (ix2 k (⟨512 + q.val, by omega⟩ : Fin 4576)) := by
  after_reads_at

/-- The values' columns, as the line cuts them. -/
theorem vals_at (c : Dev nD) (k : Fin 1024) (q : Fin 128) :
    (StableHlo.upto hostOps0 (fun b => m (c, b)) 17 (Proc.devRef .tc main_v3) (ix2 k q) : EReal) = m ((c : Thread nD τ).loc main_arg2) (ix2 k (⟨640 + q.val, by omega⟩ : Fin 4576)) := by
  after_reads_at

/-- Six blocks of 128 columns set side by side: the first 128 columns are the first block's. -/
theorem side_first (p2 p3 p4 p5 p6 p7 : S1024x128.Idx → Elt Ideal EltTy.f32) (k : Fin 1024) (j : Fin 768) (q : Fin 128) (hj : j.val = q.val) :
    (truncf (F := Ideal) FTy.bf16 (concatenate (α := Elt Ideal EltTy.f32) S1024x768 1 [⟨S1024x128, p2⟩, ⟨S1024x128, p3⟩, ⟨S1024x128, p4⟩, ⟨S1024x128, p5⟩, ⟨S1024x128, p6⟩, ⟨S1024x128, p7⟩] concatenates_S1024x128_S1024x128_S1024x128_S1024x128_S1024x128_S1024x128_S1024x768_d1) bitsLt_bf16_f32 (ix2 k j) : EReal) = p2 (ix2 k q) := by
  obtain rfl : j = ⟨q.val, by clear hj; omega⟩ := Fin.ext hj
  pointwise

/-- Six blocks of 128 columns set side by side: the next 128 columns are the second block's. -/
theorem side_second (p2 p3 p4 p5 p6 p7 : S1024x128.Idx → Elt Ideal EltTy.f32) (k : Fin 1024) (j : Fin 768) (q : Fin 128) (hj : j.val = 128 + q.val) :
    (truncf (F := Ideal) FTy.bf16 (concatenate (α := Elt Ideal EltTy.f32) S1024x768 1 [⟨S1024x128, p2⟩, ⟨S1024x128, p3⟩, ⟨S1024x128, p4⟩, ⟨S1024x128, p5⟩, ⟨S1024x128, p6⟩, ⟨S1024x128, p7⟩] concatenates_S1024x128_S1024x128_S1024x128_S1024x128_S1024x128_S1024x128_S1024x768_d1) bitsLt_bf16_f32 (ix2 k j) : EReal) = p3 (ix2 k q) := by
  obtain rfl : j = ⟨128 + q.val, by clear hj; omega⟩ := Fin.ext hj
  pointwise

/-- The keys' and values' columns, as the pipeline finds them. -/
theorem wkv_at (c : Dev nD) (k : Fin 1024) (j : Fin 768) (hj : j.val < 256) :
    (V m c main_v18 (ix2 k j) : EReal) = m ((c : Thread nD τ).loc main_arg2) (ix2 k (⟨512 + j.val, by omega⟩ : Fin 4576)) := by
  after_reads_simp
  by_cases h : j.val < 128
  · refine (side_first _ _ _ _ _ _ k j ⟨j.val, h⟩ rfl).trans ((keys_at m c k _).trans ?_)
    rfl
  · refine (side_second _ _ _ _ _ _ k j ⟨j.val - 128, by omega⟩ (by simp only; omega)).trans ((vals_at m c k _).trans ?_)
    exact congrArg (fun q => (m ((c : Thread nD τ).loc main_arg2) (ix2 k q) : EReal)) (Fin.ext (by simp only; omega))

end Cert.InIdeal.Proj

end
-- ==== Proof.InValue.lean ====
/- The input projection: the results compared that its pipeline writes, index by index. -/
module

public import proofs.«01_k».proof.Proof.InOper
public import proofs.«01_k».proof.Proof.InOuts
public import Idealize.ShloMosaic.Lib.Pipeline.ValueKit

@[expose] public section

set_option maxRecDepth 16384

noncomputable section

namespace Cert.InIdeal.Proj

open Cert.InIdeal.Gen Cert.InIdeal.Run
open Idealize.ShloMosaic.Tactic
open Idealize.ShloMosaic Idealize.ShloMosaic.TcCoe Idealize.SL.Sem

variable (m : (ℓ : Loc nD τ sig) → Buf (Elt Ideal) ℓ)

/-- Where each point's blocks lie. -/
theorem idx : ∀ t : Fin cfg0.N, win0_0.index t = ![t.val, 0] ∧ win0_1.index t = ![0, 0] ∧ win0_3.index t = ![0, 0] ∧ win0_7.index t = ![0, 0]
    ∧ win0_8.index t = ![0, 0] ∧ win0_9.index t = ![0, 0] ∧ win0_10.index t = ![0, 0]
    ∧ win0_21.index t = ![t.val / 32, 0, t.val % 32, 0] ∧ win0_22.index t = ![t.val / 32, 0, t.val % 32, 0] ∧ win0_31.index t = ![t.val / 32, 0, t.val % 32, 0]
    ∧ win0_32.index t = ![t.val, 0] ∧ win0_33.index t = ![t.val, 0] ∧ win0_34.index t = ![t.val, 0] ∧ t.val < 256 :=
  (by decide +kernel : ∀ t : Fin grid0.N, _)

/-- The points are 256. -/
theorem pt_lt (t : Fin cfg0.N) : t.val < 256 := (idx t).2.2.2.2.2.2.2.2.2.2.2.2.2

/-- The token of row `a` of a point's tile. -/
def tok (t : Fin cfg0.N) (a : Fin 256) : Fin 65536 := ⟨t.val * 256 + a.val, by have := pt_lt t; omega⟩

/-- The tile's row of the batch. -/
theorem seq_tok (t : Fin cfg0.N) (a : Fin 256) : (seqOf (tok t a)).val = t.val / 32 := by simp only [seqOf, tok]; omega

/-- The tile's place in its row. -/
theorem pos_tok (t : Fin cfg0.N) (a : Fin 256) : (posOf (tok t a)).val = t.val % 32 * 256 + a.val := by simp only [posOf, tok]; omega

/-- The rows' tile. -/
theorem blk0 (c : Dev nD) (t : Fin cfg0.N) (a : Fin 256) (q : Fin 1024) :
    (iblk m c 0 t (ix2 a q) : EReal) = m ((c : Thread nD τ).loc main_arg0) (ix3 (seqOf (tok t a)) (posOf (tok t a)) q) := by
  refine Eq.trans ?_ (x_at m c (tok t a) q)
  blk_ext [iblk, idx t, tok]

/-- The gain. -/
theorem blk1 (c : Dev nD) (t : Fin cfg0.N) (q : Fin 1024) :
    (iblk m c 1 t (ix2 (0 : Fin 1) q) : EReal) = m ((c : Thread nD τ).loc main_arg1) (ix1 q) := by
  refine Eq.trans ?_ (gn_at m c q)
  blk_ext [iblk, idx t]

/-- The keys' and values' columns. -/
theorem blk3 (c : Dev nD) (t : Fin cfg0.N) (k : Fin 1024) (j : Fin 768) (hj : j.val < 256) :
    (iblk m c 3 t (ix2 k j) : EReal) = m ((c : Thread nD τ).loc main_arg2) (ix2 k (⟨512 + j.val, by omega⟩ : Fin 4576)) := by
  refine Eq.trans ?_ (wkv_at m c k j hj)
  blk_ext [iblk, idx t]

/-- The index queries' columns. -/
theorem blk7 (c : Dev nD) (t : Fin cfg0.N) (k : Fin 1024) (j : Fin 512) :
    (iblk m c 7 t (ix2 k j) : EReal) = m ((c : Thread nD τ).loc main_arg2) (ix2 k (⟨1944 + j.val, by omega⟩ : Fin 4576)) := by
  refine Eq.trans ?_ (wiq_at m c k j)
  blk_ext [iblk, idx t]

/-- The index keys' columns. -/
theorem blk8 (c : Dev nD) (t : Fin cfg0.N) (k : Fin 1024) (j : Fin 64) :
    (iblk m c 8 t (ix2 k j) : EReal) = m ((c : Thread nD τ).loc main_arg2) (ix2 k (⟨2456 + j.val, by omega⟩ : Fin 4576)) := by
  refine Eq.trans ?_ (wik_at m c k j)
  blk_ext [iblk, idx t]

/-- The first gates' columns. -/
theorem blk9 (c : Dev nD) (t : Fin cfg0.N) (k : Fin 1024) (j : Fin 1024) :
    (iblk m c 9 t (ix2 k j) : EReal) = m ((c : Thread nD τ).loc main_arg2) (ix2 k (⟨2528 + j.val, by omega⟩ : Fin 4576)) := by
  refine Eq.trans ?_ (wga_at m c k j)
  blk_ext [iblk, idx t]

/-- The second gates' columns. -/
theorem blk10 (c : Dev nD) (t : Fin cfg0.N) (k : Fin 1024) (j : Fin 1024) :
    (iblk m c 10 t (ix2 k j) : EReal) = m ((c : Thread nD τ).loc main_arg2) (ix2 k (⟨3552 + j.val, by omega⟩ : Fin 4576)) := by
  refine Eq.trans ?_ (wgb_at m c k j)
  blk_ext [iblk, idx t]

/-- A tile's rows, normed, are its tokens'. -/
theorem tile_hid (c : Dev nD) (t : Fin cfg0.N) (a : Fin 256) (q : Fin 1024) :
    ((k0_pay5 (iblk m c 0 t) (iblk m c 1 t)) (ix2 a q) : EReal) = normed (fun k => (m ((c : Thread nD τ).loc main_arg0) (ix3 (seqOf (tok t a)) (posOf (tok t a)) k) : EReal)) (m ((c : Thread nD τ).loc main_arg1) (ix1 q)) q := by
  refine (pay5_at _ _ a q).trans ?_
  simp only [blk0, blk1]

/-- The first gates' array is the first branch's gates. -/
theorem gateA_eq (c : Dev nD) : (dats m 0 c).arrAt 33 cfg0.N = gateA (m ((c : Thread nD τ).loc main_arg0)) (m ((c : Thread nD τ).loc main_arg1)) (m ((c : Thread nD τ).loc main_arg2)) := by
  refine (dats m 0 c).arrAt_eq_of_covers 33 _ (by decide +kernel) fun t hf y => ?_
  blk_simp
  rw [after0_33]
  unfold outsAt0
  frame_out
  idx_vars y
  have he : ((View.whole main_v63_13).slice (win0_33.rect t)).emb (ix2 y0 y1) = ix2 (tok t y0) y1 := by blk_ext [idx t, tok]
  rw [he]
  refine (pay3_at _ _ y0 y1).trans (congrArg Ideal.logistic ?_)
  simp only [tile_hid, blk9]
  rfl

/-- The second gates' array is the second branch's gates. -/
theorem gateB_eq (c : Dev nD) : (dats m 0 c).arrAt 34 cfg0.N = gateB (m ((c : Thread nD τ).loc main_arg0)) (m ((c : Thread nD τ).loc main_arg1)) (m ((c : Thread nD τ).loc main_arg2)) := by
  refine (dats m 0 c).arrAt_eq_of_covers 34 _ (by decide +kernel) fun t hf y => ?_
  blk_simp
  rw [after0_34]
  unfold outsAt0
  frame_out
  idx_vars y
  have he : ((View.whole main_v63_14).slice (win0_34.rect t)).emb (ix2 y0 y1) = ix2 (tok t y0) y1 := by blk_ext [idx t, tok]
  rw [he]
  refine (pay4_at _ _ y0 y1).trans (congrArg Ideal.logistic ?_)
  simp only [tile_hid, blk10]
  rfl

/-- The index keys' array is the index keys. -/
theorem idxK_eq (c : Dev nD) : (dats m 0 c).arrAt 32 cfg0.N = idxK (m ((c : Thread nD τ).loc main_arg0)) (m ((c : Thread nD τ).loc main_arg1)) (m ((c : Thread nD τ).loc main_arg2)) := by
  refine (dats m 0 c).arrAt_eq_of_covers 32 _ (by decide +kernel) fun t hf y => ?_
  blk_simp
  rw [after0_32]
  unfold outsAt0
  frame_out
  idx_vars y
  have he : ((View.whole main_v63_12).slice (win0_32.rect t)).emb (ix2 y0 y1) = ix2 (tok t y0) y1 := by blk_ext [idx t, tok]
  rw [he]
  refine (pay2_at _ _ y0 y1).trans ?_
  simp only [tile_hid, blk8]
  rfl

/-- A column of the tile's keys and values is its tokens' projection. -/
theorem col_kv (c : Dev nD) (t : Fin cfg0.N) (a : Fin 256) (j : Fin 768) (hj : j.val < 256) (q : Fin 4576) (hq : q.val = 512 + j.val) :
    (k0_pay21 (k0_pay5 (iblk m c 0 t) (iblk m c 1 t)) (iblk m c 3 t) (ix2 a j) : EReal) = projAt (m ((c : Thread nD τ).loc main_arg0)) (m ((c : Thread nD τ).loc main_arg1)) (m ((c : Thread nD τ).loc main_arg2)) (seqOf (tok t a)) (posOf (tok t a)) q := by
  obtain rfl : q = (⟨512 + j.val, by clear hq; omega⟩ : Fin 4576) := Fin.ext hq
  refine (pay21_at _ _ a j).trans ?_
  unfold projAt
  refine Finset.sum_congr rfl fun k _ => ?_
  rw [tile_hid, blk3 m c t k j hj]

/-- A column of the tile's index queries is its tokens' projection. -/
theorem col_iq (c : Dev nD) (t : Fin cfg0.N) (a : Fin 256) (j : Fin 512) (q : Fin 4576) (hq : q.val = 1944 + j.val) :
    (k0_pay68 (k0_pay5 (iblk m c 0 t) (iblk m c 1 t)) (iblk m c 7 t) (ix2 a j) : EReal) = projAt (m ((c : Thread nD τ).loc main_arg0)) (m ((c : Thread nD τ).loc main_arg1)) (m ((c : Thread nD τ).loc main_arg2)) (seqOf (tok t a)) (posOf (tok t a)) q := by
  obtain rfl : q = (⟨1944 + j.val, by clear hq; omega⟩ : Fin 4576) := Fin.ext hq
  refine (pay68_at _ _ a j).trans ?_
  unfold projAt
  refine Finset.sum_congr rfl fun k _ => ?_
  rw [tile_hid, blk7 m c t k j]

/-- The compressed keys' array is the compressed keys. -/
theorem keys_eq (c : Dev nD) : (dats m 0 c).arrAt 21 cfg0.N = keys (m ((c : Thread nD τ).loc main_arg0)) (m ((c : Thread nD τ).loc main_arg1)) (m ((c : Thread nD τ).loc main_arg2)) := by
  refine (dats m 0 c).arrAt_eq_of_covers 21 _ (by decide +kernel) fun t hf y => ?_
  blk_simp
  rw [after0_21]
  unfold outsAt0
  frame_out
  idx_vars y
  have he : ((View.whole main_v63_1).slice (win0_21.rect t)).emb (ix4 y0 y1 y2 y3) = ix4 (seqOf (tok t y2)) y1 (posOf (tok t y2)) y3 := by blk_ext [idx t, seq_tok, pos_tok]
  rw [he]
  canon_tiles x h
  all_goals idx_vars x
  all_goals obtain rfl : y2 = x2 := Fin.ext h2
  · have e1 : y1.val = 1 := by omega
    obtain rfl : x0 = 0 := Subsingleton.elim _ _
    obtain rfl : x1 = 0 := Subsingleton.elim _ _
    exact (pay24_at _ _ y2 x3).trans (col_kv m c t y2 _ (by show 64 + x3.val < 256; omega) _ (by show 512 + (y1.val * 64 + y3.val) = 512 + (64 + x3.val); omega))
  · have e1 : y1.val = 0 := by omega
    obtain rfl : x0 = 0 := Subsingleton.elim _ _
    obtain rfl : x1 = 0 := Subsingleton.elim _ _
    exact (pay23_at _ _ y2 x3).trans (col_kv m c t y2 _ (by show 0 + x3.val < 256; omega) _ (by show 512 + (y1.val * 64 + y3.val) = 512 + (0 + x3.val); omega))

/-- The compressed values' array is the compressed values. -/
theorem vals_eq (c : Dev nD) : (dats m 0 c).arrAt 22 cfg0.N = vals (m ((c : Thread nD τ).loc main_arg0)) (m ((c : Thread nD τ).loc main_arg1)) (m ((c : Thread nD τ).loc main_arg2)) := by
  refine (dats m 0 c).arrAt_eq_of_covers 22 _ (by decide +kernel) fun t hf y => ?_
  blk_simp
  rw [after0_22]
  unfold outsAt0
  frame_out
  idx_vars y
  have he : ((View.whole main_v63_2).slice (win0_22.rect t)).emb (ix4 y0 y1 y2 y3) = ix4 (seqOf (tok t y2)) y1 (posOf (tok t y2)) y3 := by blk_ext [idx t, seq_tok, pos_tok]
  rw [he]
  canon_tiles x h
  all_goals idx_vars x
  all_goals obtain rfl : y2 = x2 := Fin.ext h2
  · have e1 : y1.val = 1 := by omega
    obtain rfl : x0 = 0 := Subsingleton.elim _ _
    obtain rfl : x1 = 0 := Subsingleton.elim _ _
    exact (pay28_at _ _ y2 x3).trans (col_kv m c t y2 _ (by show 192 + x3.val < 256; omega) _ (by show 640 + (y1.val * 64 + y3.val) = 512 + (192 + x3.val); omega))
  · have e1 : y1.val = 0 := by omega
    obtain rfl : x0 = 0 := Subsingleton.elim _ _
    obtain rfl : x1 = 0 := Subsingleton.elim _ _
    exact (pay27_at _ _ y2 x3).trans (col_kv m c t y2 _ (by show 128 + x3.val < 256; omega) _ (by show 640 + (y1.val * 64 + y3.val) = 512 + (128 + x3.val); omega))

set_option maxHeartbeats 4000000 in
/-- The index queries' array is the index queries. -/
theorem idxQ_eq (c : Dev nD) : (dats m 0 c).arrAt 31 cfg0.N = idxQ (m ((c : Thread nD τ).loc main_arg0)) (m ((c : Thread nD τ).loc main_arg1)) (m ((c : Thread nD τ).loc main_arg2)) := by
  refine (dats m 0 c).arrAt_eq_of_covers 31 _ (by decide +kernel) fun t hf y => ?_
  blk_simp
  rw [after0_31]
  unfold outsAt0
  frame_out
  idx_vars y
  have he : ((View.whole main_v63_11).slice (win0_31.rect t)).emb (ix4 y0 y1 y2 y3) = ix4 (seqOf (tok t y2)) y1 (posOf (tok t y2)) y3 := by blk_ext [idx t, seq_tok, pos_tok]
  rw [he]
  canon_tiles x h
  all_goals idx_vars x
  all_goals obtain rfl : y2 = x2 := Fin.ext h2
  · have e1 : y1.val = 7 := by omega
    obtain rfl : x0 = 0 := Subsingleton.elim _ _
    obtain rfl : x1 = 0 := Subsingleton.elim _ _
    exact (pay1_at _ _ y2 x3).trans (col_iq m c t y2 _ _ (by show 1944 + (y1.val * 64 + y3.val) = 1944 + (448 + x3.val); omega))
  · have e1 : y1.val = 6 := by omega
    obtain rfl : x0 = 0 := Subsingleton.elim _ _
    obtain rfl : x1 = 0 := Subsingleton.elim _ _
    exact (pay76_at _ _ y2 x3).trans (col_iq m c t y2 _ _ (by show 1944 + (y1.val * 64 + y3.val) = 1944 + (384 + x3.val); omega))
  · have e1 : y1.val = 5 := by omega
    obtain rfl : x0 = 0 := Subsingleton.elim _ _
    obtain rfl : x1 = 0 := Subsingleton.elim _ _
    exact (pay75_at _ _ y2 x3).trans (col_iq m c t y2 _ _ (by show 1944 + (y1.val * 64 + y3.val) = 1944 + (320 + x3.val); omega))
  · have e1 : y1.val = 4 := by omega
    obtain rfl : x0 = 0 := Subsingleton.elim _ _
    obtain rfl : x1 = 0 := Subsingleton.elim _ _
    exact (pay74_at _ _ y2 x3).trans (col_iq m c t y2 _ _ (by show 1944 + (y1.val * 64 + y3.val) = 1944 + (256 + x3.val); omega))
  · have e1 : y1.val = 3 := by omega
    obtain rfl : x0 = 0 := Subsingleton.elim _ _
    obtain rfl : x1 = 0 := Subsingleton.elim _ _
    exact (pay73_at _ _ y2 x3).trans (col_iq m c t y2 _ _ (by show 1944 + (y1.val * 64 + y3.val) = 1944 + (192 + x3.val); omega))
  · have e1 : y1.val = 2 := by omega
    obtain rfl : x0 = 0 := Subsingleton.elim _ _
    obtain rfl : x1 = 0 := Subsingleton.elim _ _
    exact (pay72_at _ _ y2 x3).trans (col_iq m c t y2 _ _ (by show 1944 + (y1.val * 64 + y3.val) = 1944 + (128 + x3.val); omega))
  · have e1 : y1.val = 1 := by omega
    obtain rfl : x0 = 0 := Subsingleton.elim _ _
    obtain rfl : x1 = 0 := Subsingleton.elim _ _
    exact (pay71_at _ _ y2 x3).trans (col_iq m c t y2 _ _ (by show 1944 + (y1.val * 64 + y3.val) = 1944 + (64 + x3.val); omega))
  · have e1 : y1.val = 0 := by omega
    obtain rfl : x0 = 0 := Subsingleton.elim _ _
    obtain rfl : x1 = 0 := Subsingleton.elim _ _
    exact (pay69_at _ _ y2 x3).trans (col_iq m c t y2 _ _ (by show 1944 + (y1.val * 64 + y3.val) = 1944 + (0 + x3.val); omega))

end Cert.InIdeal.Proj

end
-- ==== Proof.InRef.lean ====
/- The input projection's reference: its results are the same arrays the pipeline writes. -/
module

public import proofs.«01_k».proof.Proof.InTile
public import proofs.«01_k».proof.Proof.Gen.InReferenceIdeal.Run

@[expose] public section

set_option maxRecDepth 16384

noncomputable section

namespace Cert.InReferenceIdeal.Proj

open Cert.InReferenceIdeal Cert.InReferenceIdeal.Gen
open Idealize.ShloMosaic.Tactic
open Idealize.ShloMosaic Idealize.ShloMosaic.TcCoe Idealize.SL.Sem

/-- The reference's normalisation of an array's rows. -/
def refNorm (r : FVec Ideal S65536x1024 .f32) (gn : FVec Ideal S1024 .f32) : FVec Ideal S65536x1024 .f32 :=
  mulf (mulf r (broadcastInDim S65536x1024 ![0, 1] bcast_S65536x1_S65536x1024_0_1 (Host.rsqrt (F := Ideal) (addf (Host.divf (F := Ideal)
    (broadcastInDim S65536x1 ![0] bcast_S65536_S65536x1_0 (Host.reduceAdd (F := Ideal) (mulf r r) (constant (F := Ideal) S_ .f32 0x00000000#32 : FVec Ideal S_ .f32) reducesTo_S65536x1024_S65536_d1 h_S_))
    (broadcastInDim S65536x1 ![] bcast_S_S65536x1 (constant (F := Ideal) S_ .f32 0x44800000#32 : FVec Ideal S_ .f32)))
    (broadcastInDim S65536x1 ![] bcast_S_S65536x1 (constant (F := Ideal) S_ .f32 0x358637BD#32 : FVec Ideal S_ .f32))))))
    (broadcastInDim S65536x1024 ![0, 1] bcast_S1x1024_S65536x1024_0_1 (broadcastInDim S1x1024 ![1] bcast_S1024_S1x1024_1 gn))

/-- The reference's projection: every column of the matrix. -/
def refProj (x : FVec Ideal S8x8192x1024 .f32) (gn : FVec Ideal S1024 .f32) (w : FVec Ideal S1024x4576 .f32) : FVec Ideal S65536x4576 .f32 :=
  Host.dotGeneral (F := Ideal) dot_S65536x1024_S1024x4576_S65536x4576_1_0_0_1_n_n none (refNorm (shapeCast _ x shapeCasts_S8x8192x1024_S65536x1024) gn) w

/-- The compressed keys, out of the projection. -/
def refKeys (p : FVec Ideal S65536x4576 .f32) : FVec Ideal S8x2x8192x64 .f32 :=
  transpose S8x2x8192x64 [0, 2, 1, 3] (shapeCast _ (extractStridedSlice S65536x128 ![0, 512] p slices_S65536x4576_S65536x128_0_512) shapeCasts_S65536x128_S8x8192x2x64) transposes_S8x8192x2x64_S8x2x8192x64_0_2_1_3

/-- The compressed values, out of the projection. -/
def refVals (p : FVec Ideal S65536x4576 .f32) : FVec Ideal S8x2x8192x64 .f32 :=
  transpose S8x2x8192x64 [0, 2, 1, 3] (shapeCast _ (extractStridedSlice S65536x128 ![0, 640] p slices_S65536x4576_S65536x128_0_640) shapeCasts_S65536x128_S8x8192x2x64) transposes_S8x8192x2x64_S8x2x8192x64_0_2_1_3

/-- The index queries, out of the projection. -/
def refIdxQ (p : FVec Ideal S65536x4576 .f32) : FVec Ideal S8x8x8192x64 .bf16 :=
  truncf (F := Ideal) .bf16 (transpose S8x8x8192x64 [0, 2, 1, 3] (shapeCast _ (extractStridedSlice S65536x512 ![0, 1944] p slices_S65536x4576_S65536x512_0_1944) shapeCasts_S65536x512_S8x8192x8x64) transposes_S8x8192x8x64_S8x8x8192x64_0_2_1_3) bitsLt_bf16_f32

/-- The index keys, out of the projection. -/
def refIdxK (p : FVec Ideal S65536x4576 .f32) : FVec Ideal S65536x64 .bf16 :=
  truncf (F := Ideal) .bf16 (extractStridedSlice S65536x64 ![0, 2456] p slices_S65536x4576_S65536x64_0_2456) bitsLt_bf16_f32

/-- The first gates, out of the projection. -/
def refGateA (p : FVec Ideal S65536x4576 .f32) : FVec Ideal S65536x1024 .f32 :=
  Host.divf (F := Ideal) (broadcastInDim S65536x1024 ![] bcast_S_S65536x1024 (constant (F := Ideal) S_ .f32 0x3F800000#32 : FVec Ideal S_ .f32)) (addf (broadcastInDim S65536x1024 ![] bcast_S_S65536x1024 (constant (F := Ideal) S_ .f32 0x3F800000#32 : FVec Ideal S_ .f32)) (Host.exp (F := Ideal) (Host.negf (F := Ideal) (extractStridedSlice S65536x1024 ![0, 2528] p slices_S65536x4576_S65536x1024_0_2528))))

/-- The second gates, out of the projection. -/
def refGateB (p : FVec Ideal S65536x4576 .f32) : FVec Ideal S65536x1024 .f32 :=
  Host.divf (F := Ideal) (broadcastInDim S65536x1024 ![] bcast_S_S65536x1024 (constant (F := Ideal) S_ .f32 0x3F800000#32 : FVec Ideal S_ .f32)) (addf (broadcastInDim S65536x1024 ![] bcast_S_S65536x1024 (constant (F := Ideal) S_ .f32 0x3F800000#32 : FVec Ideal S_ .f32)) (Host.exp (F := Ideal) (Host.negf (F := Ideal) (extractStridedSlice S65536x1024 ![0, 3552] p slices_S65536x4576_S65536x1024_0_3552))))

/-- The normalisation at an index. -/
theorem refNorm_at (r : FVec Ideal S65536x1024 .f32) (gn : FVec Ideal S1024 .f32) (n : Fin 65536) (q : Fin 1024) :
    (refNorm r gn (ix2 n q) : EReal) = Cert.InIdeal.Proj.normed (fun k => (r (ix2 n k) : EReal)) (gn (ix1 q)) q := by
  pointwise [refNorm]
  rfl

/-- The rows at an index. -/
theorem rows_at (x : FVec Ideal S8x8192x1024 .f32) (n : Fin 65536) (q : Fin 1024) :
    ((shapeCast _ x shapeCasts_S8x8192x1024_S65536x1024 : FVec Ideal S65536x1024 .f32) (ix2 n q) : EReal) = x (ix3 (Cert.InIdeal.Proj.seqOf n) (Cert.InIdeal.Proj.posOf n) q) := by
  pointwise
  rfl

/-- The projection at an index. -/
theorem refProj_at (x : FVec Ideal S8x8192x1024 .f32) (gn : FVec Ideal S1024 .f32) (w : FVec Ideal S1024x4576 .f32) (n : Fin 65536) (j : Fin 4576) :
    (refProj x gn w (ix2 n j) : EReal) = Cert.InIdeal.Proj.projAt x gn w (Cert.InIdeal.Proj.seqOf n) (Cert.InIdeal.Proj.posOf n) j := by
  have h : (refProj x gn w (ix2 n j) : EReal) = ∑ k : Fin 1024, (refNorm (shapeCast _ x shapeCasts_S8x8192x1024_S65536x1024) gn (ix2 n k) : EReal) * (w (ix2 k j) : EReal) := by
    unfold refProj
    generalize refNorm (shapeCast _ x shapeCasts_S8x8192x1024_S65536x1024) gn = A
    pointwise
  rw [h]
  unfold Cert.InIdeal.Proj.projAt
  simp only [refNorm_at, rows_at]

/-- The projection at a token given by its row of the batch and its place there. -/
theorem refProj_tok (x : FVec Ideal S8x8192x1024 .f32) (gn : FVec Ideal S1024 .f32) (w : FVec Ideal S1024x4576 .f32) (b : Fin 8) (s : Fin 8192) (j : Fin 4576) (n : Fin 65536) (hn : n.val = b.val * 8192 + s.val) :
    (refProj x gn w (ix2 n j) : EReal) = Cert.InIdeal.Proj.projAt x gn w b s j := by
  have hb : Cert.InIdeal.Proj.seqOf n = b := Fin.ext (by show n.val / 8192 = b.val; omega)
  have hs : Cert.InIdeal.Proj.posOf n = s := Fin.ext (by show n.val % 8192 = s.val; omega)
  rw [refProj_at, hb, hs]

/-- The compressed keys at an index. -/
theorem refKeys_at (p : FVec Ideal S65536x4576 .f32) (b : Fin 8) (h : Fin 2) (s : Fin 8192) (d : Fin 64) :
    (refKeys p (ix4 b h s d) : EReal) = p (ix2 (⟨b.val * 8192 + s.val, by omega⟩ : Fin 65536) (⟨512 + (h.val * 64 + d.val), by omega⟩ : Fin 4576)) := by
  pointwise [refKeys]

/-- The reference's compressed keys are the array the pipeline writes. -/
theorem refKeys_eq (x : FVec Ideal S8x8192x1024 .f32) (gn : FVec Ideal S1024 .f32) (w : FVec Ideal S1024x4576 .f32) : refKeys (refProj x gn w) = Cert.InIdeal.Proj.keys x gn w := by
  funext i
  idx_vars i
  refine (refKeys_at _ i0 i1 i2 i3).trans ?_
  exact refProj_tok x gn w i0 i2 _ _ rfl

/-- The compressed values at an index. -/
theorem refVals_at (p : FVec Ideal S65536x4576 .f32) (b : Fin 8) (h : Fin 2) (s : Fin 8192) (d : Fin 64) :
    (refVals p (ix4 b h s d) : EReal) = p (ix2 (⟨b.val * 8192 + s.val, by omega⟩ : Fin 65536) (⟨640 + (h.val * 64 + d.val), by omega⟩ : Fin 4576)) := by
  pointwise [refVals]

/-- The reference's compressed values are the array the pipeline writes. -/
theorem refVals_eq (x : FVec Ideal S8x8192x1024 .f32) (gn : FVec Ideal S1024 .f32) (w : FVec Ideal S1024x4576 .f32) : refVals (refProj x gn w) = Cert.InIdeal.Proj.vals x gn w := by
  funext i
  idx_vars i
  refine (refVals_at _ i0 i1 i2 i3).trans ?_
  exact refProj_tok x gn w i0 i2 _ _ rfl

/-- The index queries at an index. -/
theorem refIdxQ_at (p : FVec Ideal S65536x4576 .f32) (b : Fin 8) (h : Fin 8) (s : Fin 8192) (d : Fin 64) :
    (refIdxQ p (ix4 b h s d) : EReal) = p (ix2 (⟨b.val * 8192 + s.val, by omega⟩ : Fin 65536) (⟨1944 + (h.val * 64 + d.val), by omega⟩ : Fin 4576)) := by
  pointwise [refIdxQ]

/-- The reference's index queries are the array the pipeline writes. -/
theorem refIdxQ_eq (x : FVec Ideal S8x8192x1024 .f32) (gn : FVec Ideal S1024 .f32) (w : FVec Ideal S1024x4576 .f32) : refIdxQ (refProj x gn w) = Cert.InIdeal.Proj.idxQ x gn w := by
  funext i
  idx_vars i
  refine (refIdxQ_at _ i0 i1 i2 i3).trans ?_
  exact refProj_tok x gn w i0 i2 _ _ rfl

/-- The reference's index keys are the array the pipeline writes. -/
theorem refIdxK_eq (x : FVec Ideal S8x8192x1024 .f32) (gn : FVec Ideal S1024 .f32) (w : FVec Ideal S1024x4576 .f32) : refIdxK (refProj x gn w) = Cert.InIdeal.Proj.idxK x gn w := by
  funext i
  idx_vars i
  have h : (refIdxK (refProj x gn w) (ix2 i0 i1) : EReal) = refProj x gn w (ix2 i0 (⟨2456 + i1.val, by omega⟩ : Fin 4576)) := by
    unfold refIdxK
    generalize refProj x gn w = A
    pointwise
  refine h.trans (refProj_at x gn w i0 _)

/-- The reference's gates are the array the pipeline writes. -/
theorem refGateA_eq (x : FVec Ideal S8x8192x1024 .f32) (gn : FVec Ideal S1024 .f32) (w : FVec Ideal S1024x4576 .f32) : refGateA (refProj x gn w) = Cert.InIdeal.Proj.gateA x gn w := by
  funext i
  idx_vars i
  have h : (refGateA (refProj x gn w) (ix2 i0 i1) : EReal) = Ideal.logistic (refProj x gn w (ix2 i0 (⟨2528 + i1.val, by omega⟩ : Fin 4576))) := by
    unfold refGateA
    generalize refProj x gn w = A
    pointwise
    rfl
  refine h.trans (congrArg Ideal.logistic (refProj_at x gn w i0 _))

/-- The reference's gates are the array the pipeline writes. -/
theorem refGateB_eq (x : FVec Ideal S8x8192x1024 .f32) (gn : FVec Ideal S1024 .f32) (w : FVec Ideal S1024x4576 .f32) : refGateB (refProj x gn w) = Cert.InIdeal.Proj.gateB x gn w := by
  funext i
  idx_vars i
  have h : (refGateB (refProj x gn w) (ix2 i0 i1) : EReal) = Ideal.logistic (refProj x gn w (ix2 i0 (⟨3552 + i1.val, by omega⟩ : Fin 4576))) := by
    unfold refGateB
    generalize refProj x gn w = A
    pointwise
    rfl
  refine h.trans (congrArg Ideal.logistic (refProj_at x gn w i0 _))

end Cert.InReferenceIdeal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import proofs.«01_k».proof.Proof.Same
public import proofs.«01_k».proof.Proof.MergeRef
public import proofs.«01_k».proof.Proof.InSame
public import proofs.«01_k».proof.Proof.InLaunch
public import proofs.«01_k».proof.Proof.InValue
public import proofs.«01_k».proof.Proof.InRef
public import proofs.«01_k».proof.Proof.Gen.In
public import proofs.«01_k».proof.Proof.Gen.InIdeal
public import proofs.«01_k».proof.Proof.Gen.InReferenceIdeal
public import proofs.«01_k».proof.Proof.Gen.InReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The compiled program ends with its arguments unchanged and every semaphore at zero: the same run, over bits. -/
theorem frame_kernel : Cert.quiescent_Kernel := by
  intro m g _
  rw [Cert.Same.defs_eq, Cert.Same.main_eq]
  exact Cert.KernelIdeal.Moe.frame_all (F := Bits) m g

/-- The idealized program ends with its arguments unchanged and every semaphore at zero. -/
theorem frame_ideal : Cert.quiescent_KernelIdeal := fun m ρ _ => Cert.KernelIdeal.Moe.frame_all (F := Ideal) m ρ

/-- The reference ends with its arguments unchanged and every semaphore at zero. -/
theorem frame_reference : Cert.quiescent_ReferenceIdeal := by
  intro m g _
  refine (θ_run Cert.ReferenceIdeal.defs _ _).mono (fun r h => ⟨h,
    sem_eq_zero_of_no_sems (sig := Cert.ReferenceIdeal.sig) (by decide) r.2⟩) ?_
  hlo_run

/-- The merge as printed faults nowhere and leaves its arguments. -/
theorem frame_merge : Cert.quiescent_Merge := fun m ρ _ => Cert.Merge.Gen.frame m ρ

/-- The merge on the extended reals faults nowhere and leaves its arguments. -/
theorem frame_merge_ideal : Cert.quiescent_MergeIdeal := fun m ρ _ => Cert.MergeIdeal.Gen.frame m ρ

/-- The merge's reference faults nowhere and leaves its arguments. -/
theorem frame_merge_reference : Cert.quiescent_MergeReferenceIdeal := by
  intro m g _
  refine (θ_run Cert.MergeReferenceIdeal.defs _ _).mono (fun r h => ⟨fun c => (h c).2.2,
    sem_eq_zero_of_no_sems (sig := Cert.MergeReferenceIdeal.sig) (by decide) r.2⟩) (Cert.MergeReferenceIdeal.Value.run m g)

/-- The merge's residual and normed activations are its reference's. -/
theorem value_merge : Cert.algebraic_MergeIdeal_MergeReferenceIdeal := by
  intro m g m' g' _ hargs
  refine ⟨fun c => Cert.MergeIdeal.Mix.res (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)), fun c => Cert.MergeIdeal.Mix.act (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)), ?_, ?_⟩
  · refine (θ_run Cert.MergeIdeal.defs _ _).mono (fun r h c => ?_) (Cert.MergeIdeal.Value.run_blocks m g)
    exact ⟨(h c).1.trans (Cert.MergeIdeal.Mix.res_eq m c), (h c).2.1.trans (Cert.MergeIdeal.Mix.act_eq m c), (h c).2.2.2.2⟩
  · refine (θ_run Cert.MergeReferenceIdeal.defs _ _).mono (fun r h c => ?_) (Cert.MergeReferenceIdeal.Value.run m' g')
    obtain ⟨h0, h1, h2, h3, h4, h5, h6, h7, h8, _⟩ := hargs c
    beta_reduce
    rw [← h0, ← h1, ← h2, ← h3, ← h4, ← h5, ← h6, ← h7, ← h8]
    exact ⟨(h c).1.trans (Cert.MergeReferenceIdeal.Mix.refRes_eq _ _ _ _ _ _ _ _), (h c).2.1.trans (Cert.MergeReferenceIdeal.Mix.refAct_eq _ _ _ _ _ _ _ _ _), (h c).2.2⟩

/-- The kernel's result is the reference's. -/
theorem value : Cert.algebraic_KernelIdeal_ReferenceIdeal := by
  intro m g m' g' _ hargs
  refine ⟨fun c => Cert.KernelIdeal.Moe.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨((h.2 c).1 10).trans (Cert.KernelIdeal.Moe.result_eq m c), h.1.1 c⟩)
      (θ_run_and (Cert.KernelIdeal.Moe.frame_all m g) (Cert.KernelIdeal.Moe.run_main m g))
  · hlo_run
    rename_i c
    obtain ⟨h0, h1, h2, h3, h4, h5, h6⟩ := hargs c
    rw [← h0, ← h1, ← h2, ← h3, ← h4, ← h5, ← h6]
    exact Cert.ReferenceIdeal.Moe.refOut_eq _ _ _ _ _ _ _

set_option maxHeartbeats 20000000 in
/-- The input projection as printed faults nowhere and leaves its arguments: the same run, over bits. -/
theorem frame_in : Cert.quiescent_In := by
  intro m g _
  rw [Cert.SameIn.defs_eq, Cert.SameIn.main_eq]
  exact Cert.InIdeal.Run.frame (F := Bits) m g

/-- The input projection on the extended reals faults nowhere and leaves its arguments. -/
theorem frame_in_ideal : Cert.quiescent_InIdeal := fun m ρ _ => Cert.InIdeal.Run.frame (F := Ideal) m ρ

/-- The input projection's reference faults nowhere and leaves its arguments. -/
theorem frame_in_reference : Cert.quiescent_InReferenceIdeal := by
  intro m g _
  refine (θ_run Cert.InReferenceIdeal.defs _ _).mono (fun r h => ⟨fun c => (h c).2.2.2.2.2.2,
    sem_eq_zero_of_no_sems (sig := Cert.InReferenceIdeal.sig) (by decide) r.2⟩) (Cert.InReferenceIdeal.Value.run m g)

/-- The input projection's compressed keys and values, index queries and keys, and gates are its reference's. -/
theorem value_in : Cert.algebraic_InIdeal_InReferenceIdeal := by
  intro m g m' g' _ hargs
  refine ⟨fun c => Cert.InIdeal.Proj.keys (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
      fun c => Cert.InIdeal.Proj.vals (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
      fun c => Cert.InIdeal.Proj.idxQ (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
      fun c => Cert.InIdeal.Proj.idxK (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
      fun c => Cert.InIdeal.Proj.gateA (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)),
      fun c => Cert.InIdeal.Proj.gateB (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)), ?_, ?_⟩
  · refine (θ_run Cert.InIdeal.defs _ _).mono (fun r h c => ?_) (Cert.InIdeal.Run.run_blocks m g)
    exact ⟨(h c).1.trans (Cert.InIdeal.Proj.keys_eq m c), (h c).2.1.trans (Cert.InIdeal.Proj.vals_eq m c), (h c).2.2.1.trans (Cert.InIdeal.Proj.idxQ_eq m c), (h c).2.2.2.1.trans (Cert.InIdeal.Proj.idxK_eq m c), (h c).2.2.2.2.1.trans (Cert.InIdeal.Proj.gateA_eq m c), (h c).2.2.2.2.2.1.trans (Cert.InIdeal.Proj.gateB_eq m c), (h c).2.2.2.2.2.2⟩
  · refine (θ_run Cert.InReferenceIdeal.defs _ _).mono (fun r h c => ?_) (Cert.InReferenceIdeal.Value.run m' g')
    obtain ⟨h0, h1, h2, _⟩ := hargs c
    beta_reduce
    rw [← h0, ← h1, ← h2]
    exact ⟨(h c).1.trans (Cert.InReferenceIdeal.Proj.refKeys_eq _ _ _), (h c).2.1.trans (Cert.InReferenceIdeal.Proj.refVals_eq _ _ _), (h c).2.2.1.trans (Cert.InReferenceIdeal.Proj.refIdxQ_eq _ _ _), (h c).2.2.2.1.trans (Cert.InReferenceIdeal.Proj.refIdxK_eq _ _ _), (h c).2.2.2.2.1.trans (Cert.InReferenceIdeal.Proj.refGateA_eq _ _ _), (h c).2.2.2.2.2.1.trans (Cert.InReferenceIdeal.Proj.refGateB_eq _ _ _), (h c).2.2.2.2.2.2⟩

theorem claim : Cert.Claim := ⟨Cert.Kernel.Gen.facts, Cert.KernelIdeal.Gen.facts, Cert.ReferenceIdeal.Gen.facts, Cert.Merge.Gen.facts, Cert.MergeIdeal.Gen.facts, Cert.MergeReferenceIdeal.Gen.facts, Cert.In.Gen.facts, Cert.InIdeal.Gen.facts, Cert.InReferenceIdeal.Gen.facts,
  frame_kernel, frame_ideal, frame_reference, frame_merge, frame_merge_ideal, frame_merge_reference, frame_in, frame_in_ideal, frame_in_reference,
  trivial, value, trivial, value_merge, trivial, value_in⟩

end Cert.Proof

end
